-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_positive_none_ignored [hPre_some_positive_none_ignored : Cert.Pre_some_positive_none_ignored.Facts] (m : (ℓ : Loc Cert.KernelIdeal.nD Cert.KernelIdeal.τ Cert.KernelIdeal.sig) → Buf (Elt Ideal) ℓ) : Prop :=
  ∀ c : Dev Cert.KernelIdeal.nD,
    (Cert.Pre_some_positive_none_ignored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_positive_none_ignored [hPre_some_positive_none_ignored : Cert.Pre_some_positive_none_ignored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_positive_none_ignored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_some_positive_none_ignored [hKernelIdeal : Cert.KernelIdeal.Facts] [hPre_some_positive_none_ignored : Cert.Pre_some_positive_none_ignored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_positive_none_ignored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_some_positive_none_ignored [hReferenceIdeal : Cert.ReferenceIdeal.Facts] [hPre_some_positive_none_ignored : Cert.Pre_some_positive_none_ignored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_positive_none_ignored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_some_positive_none_ignored [hKernelIdeal : Cert.KernelIdeal.Facts] [hReferenceIdeal : Cert.ReferenceIdeal.Facts] [hPre_some_positive_none_ignored : Cert.Pre_some_positive_none_ignored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_positive_none_ignored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_some_positive_none_ignored : Cert.Pre_some_positive_none_ignored.Facts),
    quiescent_Kernel (hKernel := hKernel)
    ∧ quiescent_KernelIdeal (hKernelIdeal := hKernelIdeal)
    ∧ quiescent_KernelIdeal_pre_some_positive_none_ignored (hKernelIdeal := hKernelIdeal) (hPre_some_positive_none_ignored := hPre_some_positive_none_ignored)
    ∧ quiescent_ReferenceIdeal (hReferenceIdeal := hReferenceIdeal)
    ∧ quiescent_ReferenceIdeal_pre_some_positive_none_ignored (hReferenceIdeal := hReferenceIdeal) (hPre_some_positive_none_ignored := hPre_some_positive_none_ignored)
    ∧ preserves_Kernel_KernelIdeal
    ∧ algebraic_KernelIdeal_ReferenceIdeal_pre_some_positive_none_ignored (hKernelIdeal := hKernelIdeal) (hReferenceIdeal := hReferenceIdeal) (hPre_some_positive_none_ignored := hPre_some_positive_none_ignored)
-- ==== Pre_some_positive_none_ignored.lean ====
abbrev S16x25200x4 : Shape := ⟨3, ![16, 25200, 4]⟩
abbrev S16x25200 : Shape := ⟨2, ![16, 25200]⟩
abbrev S16x25200x80 : Shape := ⟨3, ![16, 25200, 80]⟩
abbrev S_ : Shape := ⟨0, ![]⟩

class Facts : Prop where
  bcast_S_S16x25200 : S_.BroadcastsInDim S16x25200 (![] : Fin 0 → Fin S16x25200.rank)
  reducesTo_S16x25200_S_d0_1 : S16x25200.ReducesTo [0, 1] S_
  h_S_ : 0 < S_.numel

variable [Facts]

def fn {F : FTy → Type} [FloatOps F] (main_arg0 : FVec F S16x25200x4 .f32) (main_arg1 : FVec F S16x25200 .f32) (main_arg2 : FVec F S16x25200x80 .f32) (main_arg3 : FVec F S16x25200x4 .f32) (main_arg4 : IVec S16x25200 32) (main_arg5 : IVec S16x25200 1) : IVec S_ 1 :=
  let main_c : IVec S_ 32 := constantI S_ 32 0#32
  let main_v0 : IVec S16x25200 32 := broadcastInDim S16x25200 ![] bcast_S_S16x25200 main_c
  let main_v1 : IVec S16x25200 1 := cmpi .ne main_arg4 main_v0
  let main_c_0 : IVec S_ 1 := constantI S_ 1 0#1
  let main_v2 : IVec S_ 1 := (fun x v => Host.reduce IntOp.ori x v reducesTo_S16x25200_S_d0_1 h_S_) main_v1 main_c_0
  let main_c_1 : IVec S_ 32 := constantI S_ 32 0#32
  let main_v3 : IVec S16x25200 32 := broadcastInDim S16x25200 ![] bcast_S_S16x25200 main_c_1
  let main_v4 : IVec S16x25200 1 := cmpi .ne main_arg4 main_v3
  let main_v5 : IVec S16x25200 1 := noti main_arg5
  let main_v6 : IVec S16x25200 1 := ori main_v4 main_v5
  let main_c_2 : IVec S_ 1 := constantI S_ 1 1#1
  let main_v7 : IVec S_ 1 := (fun x v => Host.reduce IntOp.andi x v reducesTo_S16x25200_S_d0_1 h_S_) main_v6 main_c_2
  let main_v8 : IVec S_ 1 := andi main_v2 main_v7
  main_v8
-- ==== Kernel.lean ====
abbrev S16x25200x4 : Shape := ⟨3, ![16, 25200, 4]⟩
abbrev S16x25200 : Shape := ⟨2, ![16, 25200]⟩
abbrev S16x25200x80 : Shape := ⟨3, ![16, 25200, 80]⟩
abbrev S80x5040 : Shape := ⟨2, ![80, 5040]⟩
abbrev S16x25200x8 : Shape := ⟨3, ![16, 25200, 8]⟩
abbrev S16x5x5040x8 : Shape := ⟨4, ![16, 5, 5040, 8]⟩
abbrev S16x5x8x5040 : Shape := ⟨4, ![16, 5, 8, 5040]⟩
abbrev S80x8x5040 : Shape := ⟨3, ![80, 8, 5040]⟩
abbrev S1x1 : Shape := ⟨2, ![1, 1]⟩
abbrev S8x5040 : Shape := ⟨2, ![8, 5040]⟩
abbrev S8x8x5040 : Shape := ⟨3, ![8, 8, 5040]⟩
abbrev S1x5040x80 : Shape := ⟨3, ![1, 5040, 80]⟩
abbrev S8x80 : Shape := ⟨2, ![8, 80]⟩
abbrev S1x5040 : Shape := ⟨2, ![1, 5040]⟩
abbrev S5040x8 : Shape := ⟨2, ![5040, 8]⟩
abbrev S5040x80 : Shape := ⟨2, ![5040, 80]⟩
abbrev S5040x1 : Shape := ⟨2, ![5040, 1]⟩
abbrev S1x8x5040 : Shape := ⟨3, ![1, 8, 5040]⟩
abbrev S4x5040 : Shape := ⟨2, ![4, 5040]⟩
abbrev S1x1x5040 : Shape := ⟨3, ![1, 1, 5040]⟩
abbrev S1 : Shape := ⟨1, ![1]⟩
abbrev S1x1x1 : Shape := ⟨3, ![1, 1, 1]⟩
abbrev S1x8x80 : Shape := ⟨3, ![1, 8, 80]⟩
abbrev S_ : Shape := ⟨0, ![]⟩

abbrev nBuf : Space → Nat
  | .hbm => 14
  | .vmem => 26
  | .smem => 1
  | _ => 0

abbrev bufTy : (tb : Table) → Fin (tcTables nBuf tb) → BufTy
  | .hbm, ⟨0, _⟩ => ⟨S16x25200x4, .f32⟩
  | .hbm, ⟨1, _⟩ => ⟨S16x25200, .f32⟩
  | .hbm, ⟨2, _⟩ => ⟨S16x25200x80, .f32⟩
  | .hbm, ⟨3, _⟩ => ⟨S16x25200x4, .f32⟩
  | .hbm, ⟨4, _⟩ => ⟨S16x25200, .i32⟩
  | .hbm, ⟨5, _⟩ => ⟨S16x25200, .i1⟩
  | .hbm, ⟨6, _⟩ => ⟨S80x5040, .i32⟩
  | .hbm, ⟨7, _⟩ => ⟨S80x5040, .f32⟩
  | .hbm, ⟨8, _⟩ => ⟨S16x25200x8, .f32⟩
  | .hbm, ⟨9, _⟩ => ⟨S16x5x5040x8, .f32⟩
  | .hbm, ⟨10, _⟩ => ⟨S16x5x8x5040, .f32⟩
  | .hbm, ⟨11, _⟩ => ⟨S80x8x5040, .f32⟩
  | .hbm, ⟨12, _⟩ => ⟨S1x1, .f32⟩
  | .hbm, ⟨13, _⟩ => ⟨S_, .f32⟩
  | .local _ .vmem, ⟨0, _⟩ => ⟨S8x5040, .i32⟩
  | .local _ .vmem, ⟨1, _⟩ => ⟨S8x5040, .i32⟩
  | .local _ .vmem, ⟨2, _⟩ => ⟨S8x5040, .f32⟩
  | .local _ .vmem, ⟨3, _⟩ => ⟨S8x5040, .f32⟩
  | .local _ .vmem, ⟨4, _⟩ => ⟨S8x8x5040, .f32⟩
  | .local _ .vmem, ⟨5, _⟩ => ⟨S8x8x5040, .f32⟩
  | .local _ .vmem, ⟨6, _⟩ => ⟨S1x5040x80, .f32⟩
  | .local _ .vmem, ⟨7, _⟩ => ⟨S1x5040x80, .f32⟩
  | .local _ .vmem, ⟨8, _⟩ => ⟨S1x5040x80, .f32⟩
  | .local _ .vmem, ⟨9, _⟩ => ⟨S1x5040x80, .f32⟩
  | .local _ .vmem, ⟨10, _⟩ => ⟨S1x5040x80, .f32⟩
  | .local _ .vmem, ⟨11, _⟩ => ⟨S1x5040x80, .f32⟩
  | .local _ .vmem, ⟨12, _⟩ => ⟨S1x5040x80, .f32⟩
  | .local _ .vmem, ⟨13, _⟩ => ⟨S1x5040x80, .f32⟩
  | .local _ .vmem, ⟨14, _⟩ => ⟨S1x5040x80, .f32⟩
  | .local _ .vmem, ⟨15, _⟩ => ⟨S1x5040x80, .f32⟩
  | .local _ .vmem, ⟨16, _⟩ => ⟨S1x5040x80, .f32⟩
  | .local _ .vmem, ⟨17, _⟩ => ⟨S1x5040x80, .f32⟩
  | .local _ .vmem, ⟨18, _⟩ => ⟨S1x5040x80, .f32⟩
  | .local _ .vmem, ⟨19, _⟩ => ⟨S1x5040x80, .f32⟩
  | .local _ .vmem, ⟨20, _⟩ => ⟨S1x5040x80, .f32⟩
  | .local _ .vmem, ⟨21, _⟩ => ⟨S1x5040x80, .f32⟩
  | .local _ .vmem, ⟨22, _⟩ => ⟨S8x80, .f32⟩
  | .local _ .vmem, ⟨23, _⟩ => ⟨S1x5040, .f32⟩
  | .local _ .vmem, ⟨24, _⟩ => ⟨S1x5040, .f32⟩
  | .local _ .vmem, ⟨25, _⟩ => ⟨S1x5040, .f32⟩
  | .local _ .smem, ⟨0, _⟩ => ⟨S1x1, .f32⟩
  | _, _ => ⟨S16x25200x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v599 : BitVec 1 := Scalar.cmpi .eq arg0 c9_i32
  let v600 : BitVec 32 := Scalar.extui v599
  let c0_i32_249 : BitVec 32 := 0#32
  let v601 : BitVec 1 := Scalar.cmpi .ne v600 c0_i32_249
  v601

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.muli c8_i32 arg0
  let c0_i32 : BitVec 32 := 0#32
  let v1 : BitVec 32 := Scalar.addi v0 c0_i32
  let c5_i32 : BitVec 32 := 5#32
  let v2 : BitVec 32 := Scalar.divsi v1 c5_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c5_i32 c0_i32_2
  let v9 : BitVec 32 := Scalar.extui v8
  let c0_i32_3 : BitVec 32 := 0#32
  let v10 : BitVec 1 := Scalar.cmpi .slt c5_i32 c0_i32_3
  let v11 : BitVec 32 := Scalar.extui v10
  let v12 : BitVec 32 := Scalar.subi v9 v11
  let v13 : BitVec 1 := Scalar.cmpi .ne v7 v12
  let v14 : BitVec 32 := Scalar.remsi v1 c5_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let v19 : BitVec 32 := Scalar.muli c8_i32_5 arg0
  let c0_i32_6 : BitVec 32 := 0#32
  let v20 : BitVec 32 := Scalar.addi v19 c0_i32_6
  let c5_i32_7 : BitVec 32 := 5#32
  let c0_i32_8 : BitVec 32 := 0#32
  let v21 : BitVec 1 := Scalar.cmpi .eq c5_i32_7 c0_i32_8
  let c1_i32_9 : BitVec 32 := 1#32
  let v22 : BitVec 32 := Scalar.select v21 c1_i32_9 c5_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, v30.toNat, c0_i32_13.toNat]

def cc0_transform_4 (i : grid0.Coords) : Fin 3 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.addi v0 c1_i32
  let c5_i32 : BitVec 32 := 5#32
  let v2 : BitVec 32 := Scalar.divsi v1 c5_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c5_i32 c0_i32_1
  let v9 : BitVec 32 := Scalar.extui v8
  let c0_i32_2 : BitVec 32 := 0#32
  let v10 : BitVec 1 := Scalar.cmpi .slt c5_i32 c0_i32_2
  let v11 : BitVec 32 := Scalar.extui v10
  let v12 : BitVec 32 := Scalar.subi v9 v11
  let v13 : BitVec 1 := Scalar.cmpi .ne v7 v12
  let v14 : BitVec 32 := Scalar.remsi v1 c5_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c8_i32_5 : BitVec 32 := 8#32
  let v19 : BitVec 32 := Scalar.muli c8_i32_5 arg0
  let c1_i32_6 : BitVec 32 := 1#32
  let v20 : BitVec 32 := Scalar.addi v19 c1_i32_6
  let c5_i32_7 : BitVec 32 := 5#32
  let c0_i32_8 : BitVec 32 := 0#32
  let v21 : BitVec 1 := Scalar.cmpi .eq c5_i32_7 c0_i32_8
  let c1_i32_9 : BitVec 32 := 1#32
  let v22 : BitVec 32 := Scalar.select v21 c1_i32_9 c5_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, v30.toNat, c0_i32_13.toNat]

def cc0_transform_5 (i : grid0.Coords) : Fin 3 → Nat :=
  let arg0 : BitVec 32 := BitVec.ofNat 32 (i 0).val
  let c8_i32 : BitVec 32 := 8#32
  let v0 : BitVec 32 := Scalar.muli c8_i32 arg0
  let c2_i32 : BitVec 32 := 2#32
  let v1 : BitVec 32 := Scalar.addi v0 c2_i32
  let c5_i32 : BitVec 32 := 5#32
  let v2 : BitVec 32 := Scalar.divsi v1 c5_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c5_i32 c0_i32_1
  let v9 : BitVec 32 := Scalar.extui v8
  let c0_i32_2 : BitVec 32 := 0#32
  let v10 : BitVec 1 := Scalar.cmpi .slt c5_i32 c0_i32_2
  let v11 : BitVec 32 := Scalar.extui v10
  let v12 : BitVec 32 := Scalar.subi v9 v11
  let v13 : BitVec 1 := Scalar.cmpi .ne v7 v12
  let v14 : BitVec 32 := Scalar.remsi v1 c5_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli c8_i32_4 arg0
  let c2_i32_5 : BitVec 32 := 2#32
  let v20 : BitVec 32 := Scalar.addi v19 c2_i32_5
  let c5_i32_6 : BitVec 32 := 5#32
  let c0_i32_7 : BitVec 32 := 0#32
  let v21 : BitVec 1 := Scalar.cmpi .eq c5_i32_6 c0_i32_7
  let c1_i32_8 : BitVec 32 := 1#32
  let v22 : BitVec 32 := Scalar.select v21 c1_i32_8 c5_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_6 (i : grid0.Coords) : Fin 3 → Nat :=
  let arg0 : BitVec 32 := BitVec.ofNat 32 (i 0).val
  let c8_i32 : BitVec 32 := 8#32
  let v0 : BitVec 32 := Scalar.muli c8_i32 arg0
  let c3_i32 : BitVec 32 := 3#32
  let v1 : BitVec 32 := Scalar.addi v0 c3_i32
  let c5_i32 : BitVec 32 := 5#32
  let v2 : BitVec 32 := Scalar.divsi v1 c5_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c5_i32 c0_i32_1
  let v9 : BitVec 32 := Scalar.extui v8
  let c0_i32_2 : BitVec 32 := 0#32
  let v10 : BitVec 1 := Scalar.cmpi .slt c5_i32 c0_i32_2
  let v11 : BitVec 32 := Scalar.extui v10
  let v12 : BitVec 32 := Scalar.subi v9 v11
  let v13 : BitVec 1 := Scalar.cmpi .ne v7 v12
  let v14 : BitVec 32 := Scalar.remsi v1 c5_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli c8_i32_4 arg0
  let c3_i32_5 : BitVec 32 := 3#32
  let v20 : BitVec 32 := Scalar.addi v19 c3_i32_5
  let c5_i32_6 : BitVec 32 := 5#32
  let c0_i32_7 : BitVec 32 := 0#32
  let v21 : BitVec 1 := Scalar.cmpi .eq c5_i32_6 c0_i32_7
  let c1_i32_8 : BitVec 32 := 1#32
  let v22 : BitVec 32 := Scalar.select v21 c1_i32_8 c5_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_7 (i : grid0.Coords) : Fin 3 → Nat :=
  let arg0 : BitVec 32 := BitVec.ofNat 32 (i 0).val
  let c8_i32 : BitVec 32 := 8#32
  let v0 : BitVec 32 := Scalar.muli c8_i32 arg0
  let c4_i32 : BitVec 32 := 4#32
  let v1 : BitVec 32 := Scalar.addi v0 c4_i32
  let c5_i32 : BitVec 32 := 5#32
  let v2 : BitVec 32 := Scalar.divsi v1 c5_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c5_i32 c0_i32_1
  let v9 : BitVec 32 := Scalar.extui v8
  let c0_i32_2 : BitVec 32 := 0#32
  let v10 : BitVec 1 := Scalar.cmpi .slt c5_i32 c0_i32_2
  let v11 : BitVec 32 := Scalar.extui v10
  let v12 : BitVec 32 := Scalar.subi v9 v11
  let v13 : BitVec 1 := Scalar.cmpi .ne v7 v12
  let v14 : BitVec 32 := Scalar.remsi v1 c5_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli c8_i32_4 arg0
  let c4_i32_5 : BitVec 32 := 4#32
  let v20 : BitVec 32 := Scalar.addi v19 c4_i32_5
  let c5_i32_6 : BitVec 32 := 5#32
  let c0_i32_7 : BitVec 32 := 0#32
  let v21 : BitVec 1 := Scalar.cmpi .eq c5_i32_6 c0_i32_7
  let c1_i32_8 : BitVec 32 := 1#32
  let v22 : BitVec 32 := Scalar.select v21 c1_i32_8 c5_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_8 (i : grid0.Coords) : Fin 3 → Nat :=
  let arg0 : BitVec 32 := BitVec.ofNat 32 (i 0).val
  let c8_i32 : BitVec 32 := 8#32
  let v0 : BitVec 32 := Scalar.muli c8_i32 arg0
  let c5_i32 : BitVec 32 := 5#32
  let v1 : BitVec 32 := Scalar.addi v0 c5_i32
  let c5_i32_0 : BitVec 32 := 5#32
  let v2 : BitVec 32 := Scalar.divsi v1 c5_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c5_i32_0 c0_i32_2
  let v9 : BitVec 32 := Scalar.extui v8
  let c0_i32_3 : BitVec 32 := 0#32
  let v10 : BitVec 1 := Scalar.cmpi .slt c5_i32_0 c0_i32_3
  let v11 : BitVec 32 := Scalar.extui v10
  let v12 : BitVec 32 := Scalar.subi v9 v11
  let v13 : BitVec 1 := Scalar.cmpi .ne v7 v12
  let v14 : BitVec 32 := Scalar.remsi v1 c5_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let v19 : BitVec 32 := Scalar.muli c8_i32_5 arg0
  let c5_i32_6 : BitVec 32 := 5#32
  let v20 : BitVec 32 := Scalar.addi v19 c5_i32_6
  let c5_i32_7 : BitVec 32 := 5#32
  let c0_i32_8 : BitVec 32 := 0#32
  let v21 : BitVec 1 := Scalar.cmpi .eq c5_i32_7 c0_i32_8
  let c1_i32_9 : BitVec 32 := 1#32
  let v22 : BitVec 32 := Scalar.select v21 c1_i32_9 c5_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, v30.toNat, c0_i32_13.toNat]

def cc0_transform_9 (i : grid0.Coords) : Fin 3 → Nat :=
  let arg0 : BitVec 32 := BitVec.ofNat 32 (i 0).val
  let c8_i32 : BitVec 32 := 8#32
  let v0 : BitVec 32 := Scalar.muli c8_i32 arg0
  let c6_i32 : BitVec 32 := 6#32
  let v1 : BitVec 32 := Scalar.addi v0 c6_i32
  let c5_i32 : BitVec 32 := 5#32
  let v2 : BitVec 32 := Scalar.divsi v1 c5_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c5_i32 c0_i32_1
  let v9 : BitVec 32 := Scalar.extui v8
  let c0_i32_2 : BitVec 32 := 0#32
  let v10 : BitVec 1 := Scalar.cmpi .slt c5_i32 c0_i32_2
  let v11 : BitVec 32 := Scalar.extui v10
  let v12 : BitVec 32 := Scalar.subi v9 v11
  let v13 : BitVec 1 := Scalar.cmpi .ne v7 v12
  let v14 : BitVec 32 := Scalar.remsi v1 c5_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli c8_i32_4 arg0
  let c6_i32_5 : BitVec 32 := 6#32
  let v20 : BitVec 32 := Scalar.addi v19 c6_i32_5
  let c5_i32_6 : BitVec 32 := 5#32
  let c0_i32_7 : BitVec 32 := 0#32
  let v21 : BitVec 1 := Scalar.cmpi .eq c5_i32_6 c0_i32_7
  let c1_i32_8 : BitVec 32 := 1#32
  let v22 : BitVec 32 := Scalar.select v21 c1_i32_8 c5_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_10 (i : grid0.Coords) : Fin 3 → Nat :=
  let arg0 : BitVec 32 := BitVec.ofNat 32 (i 0).val
  let c8_i32 : BitVec 32 := 8#32
  let v0 : BitVec 32 := Scalar.muli c8_i32 arg0
  let c7_i32 : BitVec 32 := 7#32
  let v1 : BitVec 32 := Scalar.addi v0 c7_i32
  let c5_i32 : BitVec 32 := 5#32
  let v2 : BitVec 32 := Scalar.divsi v1 c5_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c5_i32 c0_i32_1
  let v9 : BitVec 32 := Scalar.extui v8
  let c0_i32_2 : BitVec 32 := 0#32
  let v10 : BitVec 1 := Scalar.cmpi .slt c5_i32 c0_i32_2
  let v11 : BitVec 32 := Scalar.extui v10
  let v12 : BitVec 32 := Scalar.subi v9 v11
  let v13 : BitVec 1 := Scalar.cmpi .ne v7 v12
  let v14 : BitVec 32 := Scalar.remsi v1 c5_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli c8_i32_4 arg0
  let c7_i32_5 : BitVec 32 := 7#32
  let v20 : BitVec 32 := Scalar.addi v19 c7_i32_5
  let c5_i32_6 : BitVec 32 := 5#32
  let c0_i32_7 : BitVec 32 := 0#32
  let v21 : BitVec 1 := Scalar.cmpi .eq c5_i32_6 c0_i32_7
  let c1_i32_8 : BitVec 32 := 1#32
  let v22 : BitVec 32 := Scalar.select v21 c1_i32_8 c5_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v18.toNat, v30.toNat, c0_i32_12.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x5040 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5040 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x5040 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x5040x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x5040x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x5040x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5040x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x5040x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x5040x80 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x5040x80 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x5040x80 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16x25200x4 : Shape := ⟨3, ![16, 25200, 4]⟩
abbrev S16x25200 : Shape := ⟨2, ![16, 25200]⟩
abbrev S16x25200x80 : Shape := ⟨3, ![16, 25200, 80]⟩
abbrev S_ : Shape := ⟨0, ![]⟩
abbrev S16x25200x1 : Shape := ⟨3, ![16, 25200, 1]⟩
abbrev S1x1x81 : Shape := ⟨3, ![1, 1, 81]⟩
abbrev S16x25200x81 : Shape := ⟨3, ![16, 25200, 81]⟩

abbrev nBuf : Space → Nat
  | .hbm => 88
  | .vmem => 0
  | .smem => 0
  | _ => 0

abbrev bufTy : (tb : Table) → Fin (tcTables nBuf tb) → BufTy
  | .hbm, ⟨0, _⟩ => ⟨S16x25200x4, .f32⟩
  | .hbm, ⟨1, _⟩ => ⟨S16x25200, .f32⟩
  | .hbm, ⟨2, _⟩ => ⟨S16x25200x80, .f32⟩
  | .hbm, ⟨3, _⟩ => ⟨S16x25200x4, .f32⟩
  | .hbm, ⟨4, _⟩ => ⟨S16x25200, .i32⟩
  | .hbm, ⟨5, _⟩ => ⟨S16x25200, .i1⟩
  | .hbm, ⟨6, _⟩ => ⟨S_, .i32⟩
  | .hbm, ⟨7, _⟩ => ⟨S16x25200, .i32⟩
  | .hbm, ⟨8, _⟩ => ⟨S16x25200, .i1⟩
  | .hbm, ⟨9, _⟩ => ⟨S16x25200, .i32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S16x25200, .f32⟩
  | .hbm, ⟨14, _⟩ => ⟨S_, .f32⟩
  | .hbm, ⟨15, _⟩ => ⟨S16x25200, .f32⟩
  | .hbm, ⟨16, _⟩ => ⟨S_, .f32⟩
  | .hbm, ⟨17, _⟩ => ⟨S16x25200, .f32⟩
  | .hbm, ⟨18, _⟩ => ⟨S16x25200, .f32⟩
  | .hbm, ⟨19, _⟩ => ⟨S16x25200, .f32⟩
  | .hbm, ⟨20, _⟩ => ⟨S16x25200, .f32⟩
  | .hbm, ⟨21, _⟩ => ⟨S16x25200, .f32⟩
  | .hbm, ⟨22, _⟩ => ⟨S16x25200, .f32⟩
  | .hbm, ⟨23, _⟩ => ⟨S16x25200, .f32⟩
  | .hbm, ⟨24, _⟩ => ⟨S16x25200, .f32⟩
  | .hbm, ⟨25, _⟩ => ⟨S16x25200, .f32⟩
  | .hbm, ⟨26, _⟩ => ⟨S16x25200, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x25200, .i1⟩
  | .hbm, ⟨31, _⟩ => ⟨S16x25200, .i1⟩
  | .hbm, ⟨32, _⟩ => ⟨S16x25200, .i1⟩
  | .hbm, ⟨33, _⟩ => ⟨S16x25200, .f32⟩
  | .hbm, ⟨34, _⟩ => ⟨S_, .f32⟩
  | .hbm, ⟨35, _⟩ => ⟨S16x25200, .f32⟩
  | .hbm, ⟨36, _⟩ => ⟨S_, .f32⟩
  | .hbm, ⟨37, _⟩ => ⟨S16x25200, .f32⟩
  | .hbm, ⟨38, _⟩ => ⟨S16x25200, .f32⟩
  | .hbm, ⟨39, _⟩ => ⟨S16x25200, .f32⟩
  | .hbm, ⟨40, _⟩ => ⟨S16x25200, .f32⟩
  | .hbm, ⟨41, _⟩ => ⟨S16x25200, .f32⟩
  | .hbm, ⟨42, _⟩ => ⟨S16x25200, .f32⟩
  | .hbm, ⟨43, _⟩ => ⟨S16x25200, .f32⟩
  | .hbm, ⟨44, _⟩ => ⟨S16x25200, .f32⟩
  | .hbm, ⟨45, _⟩ => ⟨S16x25200, .f32⟩
  | .hbm, ⟨46, _⟩ => ⟨S16x25200, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16x25200x4, .f32⟩
  | .hbm, ⟨54, _⟩ => ⟨S16x25200x4, .f32⟩
  | .hbm, ⟨55, _⟩ => ⟨S16x25200x1, .f32⟩
  | .hbm, ⟨56, _⟩ => ⟨S16x25200x4, .f32⟩
  | .hbm, ⟨57, _⟩ => ⟨S16x25200x4, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16x25200x1, .i32⟩
  | .hbm, ⟨64, _⟩ => ⟨S1x1x81, .i32⟩
  | .hbm, ⟨65, _⟩ => ⟨S16x25200x81, .i32⟩
  | .hbm, ⟨66, _⟩ => ⟨S16x25200x81, .i32⟩
  | .hbm, ⟨67, _⟩ => ⟨S16x25200x81, .i1⟩
  | .hbm, ⟨68, _⟩ => ⟨S16x25200x81, .f32⟩
  | .hbm, ⟨69, _⟩ => ⟨S16x25200x80, .f32⟩
  | .hbm, ⟨70, _⟩ => ⟨S_, .f32⟩
  | .hbm, ⟨71, _⟩ => ⟨S16x25200x80, .f32⟩
  | .hbm, ⟨72, _⟩ => ⟨S16x25200x80, .f32⟩
  | .hbm, ⟨73, _⟩ => ⟨S16x25200x80, .f32⟩
  | .hbm, ⟨74, _⟩ => ⟨S16x25200x80, .f32⟩
  | .hbm, ⟨75, _⟩ => ⟨S16x25200x80, .f32⟩
  | .hbm, ⟨76, _⟩ => ⟨S16x25200x80, .f32⟩
  | .hbm, ⟨77, _⟩ => ⟨S16x25200x80, .f32⟩
  | .hbm, ⟨78, _⟩ => ⟨S16x25200x80, .f32⟩
  | .hbm, ⟨79, _⟩ => ⟨S16x25200x80, .f32⟩
  | .hbm, ⟨80, _⟩ => ⟨S16x25200x1, .f32⟩
  | .hbm, ⟨81, _⟩ => ⟨S16x25200x80, .f32⟩
  | .hbm, ⟨82, _⟩ => ⟨S16x25200x80, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S16x25200x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Proof.Algebra.lean ====
/- The arithmetic of the extended reals that the loss needs: sums with a 0/1 mask, the division by a positive number
   spread over a sum, an eighth of eight copies, running sums, and the renumbering of the predictions from the kernel's
   80 slabs of 5040 to the 16 images of 25200. Nothing here mentions a program. -/
module

public import Idealize.ShloMosaic.PureOps.Ideal
public import Idealize.ShloMosaic.PureOps.Ideal.Laws
public import Idealize.ShloMosaic.Lib.Pointwise

@[expose] public section

noncomputable section

namespace Cert.Loss

open Idealize.ShloMosaic

/-- The stable `log (1 + e^x)`: `max x 0 + log (1 + e^{-|x|})`. -/
def softplus (x : EReal) : EReal := max x 0 + Ideal.log1p (Ideal.exp (-(max x (-x))))

/-- The cross entropy against the target 1 is the softplus less the logit. -/
theorem bce_one (x : EReal) : max x 0 - x * 1 + Ideal.log1p (Ideal.exp (-(max x (-x)))) = softplus x - x := by
  rw [softplus, mul_one, sub_eq_add_neg, sub_eq_add_neg, add_right_comm]

/-- The cross entropy against the target 0 is the softplus. -/
theorem bce_zero (x : EReal) : max x 0 - x * 0 + Ideal.log1p (Ideal.exp (-(max x (-x)))) = softplus x := by
  rw [softplus, mul_zero, sub_zero]

/-- The word `0` is the number 0. -/
theorem word_zero : Ideal.ofBits .f32 0x00000000#32 = 0 := by
  simp [Ideal.ofBits, Ideal.ieee, -EReal.coe_mul]
/-- The 16-bit word `0` is the number 0. -/
theorem word_zero16 : Ideal.ofBits .bf16 0x0000#16 = 0 := by
  simp [Ideal.ofBits, Ideal.ieee, -EReal.coe_mul]
/-- The word of 1. -/
theorem word_one : Ideal.ofBits .f32 0x3F800000#32 = 1 := by
  rw [← EReal.coe_one]; simp [Ideal.ofBits, Ideal.ieee, -EReal.coe_mul]; norm_num
/-- The word of one half. -/
theorem word_half : Ideal.ofBits .f32 0x3F000000#32 = ((1 / 2 : ℝ) : EReal) := by
  simp [Ideal.ofBits, Ideal.ieee, -EReal.coe_mul]; norm_num
/-- The word of one eighth. -/
theorem word_eighth : Ideal.ofBits .f32 0x3E000000#32 = ((1 / 8 : ℝ) : EReal) := by
  simp [Ideal.ofBits, Ideal.ieee, -EReal.coe_mul]; norm_num

/-- A product with a positive number spreads over a sum. -/
theorem add_mul_pos (a b : EReal) {r : ℝ} (h : 0 ≤ r) : (a + b) * (r : EReal) = a * r + b * r :=
  EReal.right_distrib_of_nonneg_of_ne_top (by exact_mod_cast h) (EReal.coe_ne_top r) a b

/-- The quotient of a sum by a positive number is the sum of the quotients. -/
theorem div_add {n : ℝ} (h : 0 < n) (a b : EReal) : Ideal.div (a + b) (n : EReal) = Ideal.div a n + Ideal.div b n := by
  rw [Ideal.div_coe h.ne', Ideal.div_coe h.ne', Ideal.div_coe h.ne', add_mul_pos _ _ (by positivity)]

/-- A factor that is 0 or 1 spreads over any sum. -/
theorem mask_sum {ι : Type*} (s : Finset ι) (f : ι → EReal) {m : EReal} (h : m = 0 ∨ m = 1) :
    m * ∑ i ∈ s, f i = ∑ i ∈ s, m * f i := by
  rcases h with rfl | rfl <;> simp

/-- An eighth of eight equal terms is the term. -/
theorem eighth_of_eight (S : EReal) : (∑ _a : Fin 8, S) * ((1 / 8 : ℝ) : EReal) = S := by
  induction S using EReal.rec with
  | bot =>
    rw [Fin.sum_univ_eight]; simp only [EReal.bot_add]
    exact EReal.bot_mul_coe_of_pos (by norm_num)
  | top =>
    rw [Fin.sum_univ_eight]; simp only [EReal.top_add_top]
    exact EReal.top_mul_coe_of_pos (by norm_num)
  | coe r =>
    rw [Fin.sum_univ_eight]; norm_cast; ring_nf

/-- A family that starts at its first increment and grows by each next one is the sum of its increments. -/
theorem running_sum {N : ℕ} {M : Type*} [AddCommMonoid M] (acc : (n : ℕ) → n < N → M) (p : Fin N → M)
    (h0 : ∀ h, acc 0 h = p ⟨0, h⟩)
    (hs : ∀ n (h : n + 1 < N), acc (n + 1) h = acc n (Nat.lt_of_succ_lt h) + p ⟨n + 1, h⟩) :
    ∀ n (h : n < N), acc n h = ∑ i : Fin (n + 1), p ⟨i.val, lt_of_lt_of_le i.isLt h⟩
  | 0, h => by rw [h0]; simp
  | n + 1, h => by rw [hs, running_sum acc p h0 hs n, Fin.sum_univ_castSucc (n := n + 1)]; rfl

/-- Eight terms added one after another onto `a` are `a` plus their sum. -/
theorem add_eight {M : Type*} [AddCommMonoid M] (a : M) (q : Fin 8 → M) :
    a + q 0 + q 1 + q 2 + q 3 + q 4 + q 5 + q 6 + q 7 = a + ∑ k, q k := by
  rw [Fin.sum_univ_eight]; simp only [add_assoc]

/-- A double sum by quotient and remainder is the single sum. -/
theorem sum_divmod {M : Type*} [AddCommMonoid M] (m n : ℕ) (H : ℕ → M) :
    ∑ i : Fin m, ∑ j : Fin n, H (j.val + n * i.val) = ∑ p : Fin (m * n), H p.val := by
  rw [← Equiv.sum_comp finProdFinEquiv (fun p : Fin (m * n) => H p.val), Fintype.sum_prod_type]
  rfl

/-- The predictions counted by grid point, slab of the point and place in the slab are the predictions counted by image
    and place in the image. -/
theorem sum_slabs {M : Type*} [AddCommMonoid M] (H : ℕ → M) :
    ∑ s : Fin 10, ∑ k : Fin 8, ∑ r : Fin 5040, H (r.val + 5040 * (8 * s.val + k.val))
      = ∑ b : Fin 16, ∑ n : Fin 25200, H (n.val + 25200 * b.val) := by
  rw [sum_divmod 16 25200 H]
  have h1 := sum_divmod 10 8 (fun σ => ∑ r : Fin 5040, H (r.val + 5040 * σ))
  have h2 := sum_divmod 80 5040 H
  calc _ = ∑ i : Fin 10, ∑ j : Fin 8, ∑ r : Fin 5040, H (r.val + 5040 * (j.val + 8 * i.val)) := by
        simp only [add_comm]
    _ = _ := h1
    _ = _ := h2

end Cert.Loss

end
-- ==== Proof.Steps.lean ====
/- What one slab of 5040 predictions adds to the kernel's four accumulators: the vector operations the kernel applies to a
   slab, written once for all eight slabs of a grid point, and their values at an index over the extended reals. -/
module

public import proofs.«01_k».proof.Proof.Gen.KernelIdeal.Skeleton
public import proofs.«01_k».proof.Proof.Algebra

@[expose] public section

set_option maxRecDepth 16384

noncomputable section

namespace Cert.KernelIdeal.Loss

open Idealize.ShloMosaic Cert.Loss Cert.KernelIdeal.Gen

variable {F : FTy → Type} [FloatOps F]

/-- The row of classes number `k` as a 0/1 mask of the positive predictions. -/
def mask (k : ℕ) (h : S8x5040.Slices ![k, 0] S1x5040) (T : IVec S8x5040 32) : FVec F S1x5040 .f32 :=
  sitofp .f32 (extui 32 (cmpi .ne (extractStridedSlice S1x5040 ![k, 0] (shapeCast S8x5040 T shapeCasts_S8x5040_S8x5040) h)
    (broadcast S1x5040 0#32)) natLt_1_32)

/-- The class loss of a slab, one lane per class: the masked sum over the slab of the cross entropy against the one-hot
    target, added to eight equal rows. -/
def clsStep (k : ℕ) (h : S5040x8.Slices ![0, k] S5040x1) (m : FVec F S1x5040 .f32) (T : IVec S8x5040 32)
    (x : FVec F S1x5040x80 .f32) (acc : FVec F S8x80 .f32) : FVec F S8x80 .f32 :=
  let z : FVec F S5040x80 .bf16 := truncf .bf16 (shapeCast S5040x80 x shapeCasts_S1x5040x80_S5040x80) bitsLt_bf16_f32
  let o : FVec F S5040x80 .bf16 := broadcast S5040x80 (Scalar.ofBits .bf16 0x0000#16)
  let col : IVec S5040x1 32 := subi (extractStridedSlice S5040x1 ![0, k] (transpose S5040x8 [1, 0]
    (shapeCast S8x5040 T shapeCasts_S8x5040_S8x5040) transposes_S8x5040_p1_0_S5040x8) h) (broadcast S5040x1 1#32)
  let hot : IVec S5040x80 1 := cmpi .eq (iota .tc S5040x80 32 [1] iota_S5040x80_d1_w32)
    (broadcastTo S5040x80 col broadcasts_S5040x1_S5040x80)
  shapeCast S8x80 (addf acc (matmul dot_S8x5040_S5040x80_S8x80_1_0_0_1_n_n none
    (truncf .bf16 (broadcastTo S8x5040 (shapeCast S1x5040 m shapeCasts_S1x5040_S1x5040) broadcasts_S1x5040_S8x5040)
      bitsLt_bf16_f32)
    (subf (addf (maximumf z o) (log1p (exp (subf o (absf z))))) (select hot z o))
    (constant S8x80 .f32 0x00000000#32))) shapeCasts_S8x80_S8x80

/-- The count of positives of a slab, lane by lane. -/
def cntStep (m acc : FVec F S1x5040 .f32) : FVec F S1x5040 .f32 :=
  shapeCast S1x5040 (addf acc m) shapeCasts_S1x5040_S1x5040

/-- The objectness loss of a slab, lane by lane: the cross entropy against the mask. -/
def objStep (m o acc : FVec F S1x5040 .f32) : FVec F S1x5040 .f32 :=
  let z : FVec F S1x5040 .f32 := shapeCast S1x5040 o shapeCasts_S1x5040_S1x5040
  let n : FVec F S1x5040 .f32 := broadcast S1x5040 (Scalar.ofBits .f32 0x00000000#32)
  shapeCast S1x5040 (addf acc (subf (addf (maximumf z n) (log1p (exp (subf n (absf z))))) (mulf m z)))
    shapeCasts_S1x5040_S1x5040

/-- The box loss of a slab, lane by lane: the masked sum of the four squared differences. -/
def locStep (m : FVec F S1x5040 .f32) (l : FVec F S1x8x5040 .f32) (acc : FVec F S1x5040 .f32) : FVec F S1x5040 .f32 :=
  let b : FVec F S8x5040 .f32 := shapeCast S8x5040 l shapeCasts_S1x8x5040_S8x5040
  let d : FVec F S4x5040 .f32 := subf (extractStridedSlice S4x5040 ![0, 0] b slices_S8x5040_o0_0_S4x5040)
    (extractStridedSlice S4x5040 ![4, 0] b slices_S8x5040_o4_0_S4x5040)
  let q : FVec F S4x5040 .f32 := mulf d d
  shapeCast S1x5040 (addf acc (mulf m (addf (addf (addf
    (extractStridedSlice S1x5040 ![0, 0] q slices_S4x5040_o0_0_S1x5040)
    (extractStridedSlice S1x5040 ![1, 0] q slices_S4x5040_o1_0_S1x5040))
    (extractStridedSlice S1x5040 ![2, 0] q slices_S4x5040_o2_0_S1x5040))
    (extractStridedSlice S1x5040 ![3, 0] q slices_S4x5040_o3_0_S1x5040)))) shapeCasts_S1x5040_S1x5040

/-- A class word as a 0/1 number: 1 at a positive prediction. -/
def pos (w : BitVec 32) : EReal := if w = 0#32 then 0 else 1

/-- A class word's lane: class `j + 1` selects lane `j`. -/
def hot (w : BitVec 32) (j : ℕ) (x : EReal) : EReal := if BitVec.ofNat 32 j = w - 1#32 then x else 0

/-- The mask at a lane. -/
theorem mask_apply (k : Fin 8) (h : S8x5040.Slices ![k.val, 0] S1x5040) (T : IVec S8x5040 32) (r : Fin 5040) :
    mask (F := Ideal) k.val h T (ix2 0 r) = pos (T (ix2 k r)) := by
  pointwise [mask]
  rw [pos]
  split
  · rename_i h0
    rw [h0]
    simp [FloatOps.sitofp, IntOp.cmpi]
  · rename_i h0
    have h1 : (T (ix2 k r) != 0#32) = true := bne_iff_ne.mpr h0
    simp [FloatOps.sitofp, IntOp.cmpi, h1]

/-- The class step at a row and a lane. -/
theorem clsStep_apply (k : Fin 8) (h : S5040x8.Slices ![0, k.val] S5040x1) (m : FVec Ideal S1x5040 .f32)
    (T : IVec S8x5040 32) (x : FVec Ideal S1x5040x80 .f32) (acc : FVec Ideal S8x80 .f32) (a : Fin 8) (j : Fin 80) :
    clsStep k.val h m T x acc (ix2 a j) = acc (ix2 a j) + ∑ r : Fin 5040, m (ix2 0 r)
      * (softplus (x (ix3 0 r j)) - hot (T (ix2 k r)) j.val (x (ix3 0 r j))) := by
  pointwise [clsStep]
  refine congrArg _ (Finset.sum_congr rfl fun r _ => ?_)
  rw [zero_sub, Ideal.absf_def, hot, softplus, Scalar.select]
  simp only [IntOp.cmpi, IntOp.subi]
  congr 2
  by_cases h0 : BitVec.ofNat 32 j.val = T (ix2 k r) - 1#32
  · simp [h0]
  · have h1 : (BitVec.ofNat 32 j.val == T (ix2 k r) - 1#32) = false := beq_eq_false_iff_ne.mpr h0
    simp [h0, h1]

/-- The count step at a lane. -/
theorem cntStep_apply (m acc : FVec Ideal S1x5040 .f32) (r : Fin 5040) :
    cntStep m acc (ix2 0 r) = acc (ix2 0 r) + m (ix2 0 r) := by
  pointwise [cntStep]

/-- The objectness step at a lane. -/
theorem objStep_apply (m o acc : FVec Ideal S1x5040 .f32) (r : Fin 5040) :
    objStep m o acc (ix2 0 r) = acc (ix2 0 r) + (softplus (o (ix2 0 r)) - m (ix2 0 r) * o (ix2 0 r)) := by
  pointwise [objStep, softplus]
  rw [zero_sub, Ideal.absf_def]

/-- The box step at a lane. -/
theorem locStep_apply (m : FVec Ideal S1x5040 .f32) (l : FVec Ideal S1x8x5040 .f32) (acc : FVec Ideal S1x5040 .f32)
    (r : Fin 5040) :
    locStep m l acc (ix2 0 r) = acc (ix2 0 r) + m (ix2 0 r) * ∑ i : Fin 4,
      (l (ix3 0 ⟨i.val, by omega⟩ r) - l (ix3 0 ⟨4 + i.val, by omega⟩ r))
        * (l (ix3 0 ⟨i.val, by omega⟩ r) - l (ix3 0 ⟨4 + i.val, by omega⟩ r)) := by
  pointwise [locStep]
  rw [Fin.sum_univ_four]
  rfl

/-- Row `k` of a block of rows. -/
def row (k : ℕ) (h : ∀ a, (![k, 0] : Fin 2 → ℕ) a + (![1, 5040] : Fin 2 → ℕ) a ≤ S8x5040.size a)
    (O : Vec F S8x5040 .f32) : FVec F S1x5040 .f32 := View.ld O (Rect.unit ![k, 0] ![1, 5040] h)

/-- Slab `k` of a block of boxes. -/
def box (k : ℕ) (h : ∀ a, (![k, 0, 0] : Fin 3 → ℕ) a + (![1, 8, 5040] : Fin 3 → ℕ) a ≤ S8x8x5040.size a)
    (L : Vec F S8x8x5040 .f32) : FVec F S1x8x5040 .f32 := View.ld L (Rect.unit ![k, 0, 0] ![1, 8, 5040] h)

/-- The class accumulator after the eight slabs of a grid point. -/
def clsAll (T : IVec S8x5040 32) (X : Fin 8 → FVec F S1x5040x80 .f32) (acc : FVec F S8x80 .f32) : FVec F S8x80 .f32 :=
  let a1 := clsStep 0 slices_S5040x8_o0_0_S5040x1 (mask 0 slices_S8x5040_o0_0_S1x5040 T) T (X 0) acc
  let a2 := clsStep 1 slices_S5040x8_o0_1_S5040x1 (mask 1 slices_S8x5040_o1_0_S1x5040 T) T (X 1) a1
  let a3 := clsStep 2 slices_S5040x8_o0_2_S5040x1 (mask 2 slices_S8x5040_o2_0_S1x5040 T) T (X 2) a2
  let a4 := clsStep 3 slices_S5040x8_o0_3_S5040x1 (mask 3 slices_S8x5040_o3_0_S1x5040 T) T (X 3) a3
  let a5 := clsStep 4 slices_S5040x8_o0_4_S5040x1 (mask 4 slices_S8x5040_o4_0_S1x5040 T) T (X 4) a4
  let a6 := clsStep 5 slices_S5040x8_o0_5_S5040x1 (mask 5 slices_S8x5040_o5_0_S1x5040 T) T (X 5) a5
  let a7 := clsStep 6 slices_S5040x8_o0_6_S5040x1 (mask 6 slices_S8x5040_o6_0_S1x5040 T) T (X 6) a6
  let a8 := clsStep 7 slices_S5040x8_o0_7_S5040x1 (mask 7 slices_S8x5040_o7_0_S1x5040 T) T (X 7) a7
  a8

/-- The count accumulator after the eight slabs of a grid point. -/
def cntAll (T : IVec S8x5040 32) (acc : FVec F S1x5040 .f32) : FVec F S1x5040 .f32 :=
  let a1 := cntStep (mask 0 slices_S8x5040_o0_0_S1x5040 T) acc
  let a2 := cntStep (mask 1 slices_S8x5040_o1_0_S1x5040 T) a1
  let a3 := cntStep (mask 2 slices_S8x5040_o2_0_S1x5040 T) a2
  let a4 := cntStep (mask 3 slices_S8x5040_o3_0_S1x5040 T) a3
  let a5 := cntStep (mask 4 slices_S8x5040_o4_0_S1x5040 T) a4
  let a6 := cntStep (mask 5 slices_S8x5040_o5_0_S1x5040 T) a5
  let a7 := cntStep (mask 6 slices_S8x5040_o6_0_S1x5040 T) a6
  let a8 := cntStep (mask 7 slices_S8x5040_o7_0_S1x5040 T) a7
  a8

/-- The objectness accumulator after the eight slabs of a grid point. -/
def objAll (T : IVec S8x5040 32) (O : Vec F S8x5040 .f32) (acc : FVec F S1x5040 .f32) : FVec F S1x5040 .f32 :=
  let a1 := objStep (mask 0 slices_S8x5040_o0_0_S1x5040 T) (row 0 inb_S8x5040_S1x5040_0_0 O) acc
  let a2 := objStep (mask 1 slices_S8x5040_o1_0_S1x5040 T) (row 1 inb_S8x5040_S1x5040_1_0 O) a1
  let a3 := objStep (mask 2 slices_S8x5040_o2_0_S1x5040 T) (row 2 inb_S8x5040_S1x5040_2_0 O) a2
  let a4 := objStep (mask 3 slices_S8x5040_o3_0_S1x5040 T) (row 3 inb_S8x5040_S1x5040_3_0 O) a3
  let a5 := objStep (mask 4 slices_S8x5040_o4_0_S1x5040 T) (row 4 inb_S8x5040_S1x5040_4_0 O) a4
  let a6 := objStep (mask 5 slices_S8x5040_o5_0_S1x5040 T) (row 5 inb_S8x5040_S1x5040_5_0 O) a5
  let a7 := objStep (mask 6 slices_S8x5040_o6_0_S1x5040 T) (row 6 inb_S8x5040_S1x5040_6_0 O) a6
  let a8 := objStep (mask 7 slices_S8x5040_o7_0_S1x5040 T) (row 7 inb_S8x5040_S1x5040_7_0 O) a7
  a8

/-- The box accumulator after the eight slabs of a grid point. -/
def locAll (T : IVec S8x5040 32) (L : Vec F S8x8x5040 .f32) (acc : FVec F S1x5040 .f32) : FVec F S1x5040 .f32 :=
  let a1 := locStep (mask 0 slices_S8x5040_o0_0_S1x5040 T) (box 0 inb_S8x8x5040_S1x8x5040_0_0_0 L) acc
  let a2 := locStep (mask 1 slices_S8x5040_o1_0_S1x5040 T) (box 1 inb_S8x8x5040_S1x8x5040_1_0_0 L) a1
  let a3 := locStep (mask 2 slices_S8x5040_o2_0_S1x5040 T) (box 2 inb_S8x8x5040_S1x8x5040_2_0_0 L) a2
  let a4 := locStep (mask 3 slices_S8x5040_o3_0_S1x5040 T) (box 3 inb_S8x8x5040_S1x8x5040_3_0_0 L) a3
  let a5 := locStep (mask 4 slices_S8x5040_o4_0_S1x5040 T) (box 4 inb_S8x8x5040_S1x8x5040_4_0_0 L) a4
  let a6 := locStep (mask 5 slices_S8x5040_o5_0_S1x5040 T) (box 5 inb_S8x8x5040_S1x8x5040_5_0_0 L) a5
  let a7 := locStep (mask 6 slices_S8x5040_o6_0_S1x5040 T) (box 6 inb_S8x8x5040_S1x8x5040_6_0_0 L) a6
  let a8 := locStep (mask 7 slices_S8x5040_o7_0_S1x5040 T) (box 7 inb_S8x8x5040_S1x8x5040_7_0_0 L) a7
  a8

/-- The mask of the row written by its number. -/
theorem mask_at (k : ℕ) (hk : k < 8) (h : S8x5040.Slices ![k, 0] S1x5040) (T : IVec S8x5040 32) (r : Fin 5040) :
    mask (F := Ideal) k h T (ix2 0 r) = pos (T (ix2 ⟨k, hk⟩ r)) := mask_apply ⟨k, hk⟩ h T r

/-- The class step of the slab written by its number. -/
theorem clsStep_at (k : ℕ) (hk : k < 8) (h : S5040x8.Slices ![0, k] S5040x1) (h' : S8x5040.Slices ![k, 0] S1x5040)
    (T : IVec S8x5040 32) (x : FVec Ideal S1x5040x80 .f32) (acc : FVec Ideal S8x80 .f32) (a : Fin 8) (j : Fin 80) :
    clsStep k h (mask k h' T) T x acc (ix2 a j) = acc (ix2 a j) + ∑ r : Fin 5040, pos (T (ix2 ⟨k, hk⟩ r))
      * (softplus (x (ix3 0 r j)) - hot (T (ix2 ⟨k, hk⟩ r)) j.val (x (ix3 0 r j))) := by
  rw [clsStep_apply ⟨k, hk⟩ h (mask k h' T) T x acc a j]
  simp only [mask_at k hk]

/-- A row of the objectness block. -/
theorem row_at (k : ℕ) (hk : k < 8) (h : ∀ a, (![k, 0] : Fin 2 → ℕ) a + (![1, 5040] : Fin 2 → ℕ) a ≤ S8x5040.size a)
    (O : Vec Ideal S8x5040 .f32) (r : Fin 5040) :
    row k h O (ix2 0 r) = O (ix2 ⟨k, hk⟩ r) := by
  pointwise [row]

/-- A slab of the block of boxes. -/
theorem box_at (k : ℕ) (hk : k < 8)
    (h : ∀ a, (![k, 0, 0] : Fin 3 → ℕ) a + (![1, 8, 5040] : Fin 3 → ℕ) a ≤ S8x8x5040.size a)
    (L : Vec Ideal S8x8x5040 .f32) (i : Fin 8) (r : Fin 5040) :
    box k h L (ix3 0 i r) = L (ix3 ⟨k, hk⟩ i r) := by
  pointwise [box]

/-- The class accumulator grows by the sum over the point's slabs. -/
theorem clsAll_apply (T : IVec S8x5040 32) (X : Fin 8 → FVec Ideal S1x5040x80 .f32) (acc : FVec Ideal S8x80 .f32)
    (a : Fin 8) (j : Fin 80) :
    clsAll T X acc (ix2 a j) = acc (ix2 a j) + ∑ k : Fin 8, ∑ r : Fin 5040, pos (T (ix2 k r))
      * (softplus (X k (ix3 0 r j)) - hot (T (ix2 k r)) j.val (X k (ix3 0 r j))) := by
  rw [← add_eight]
  unfold clsAll
  simp (disch := decide) only [clsStep_at]
  rfl

/-- The count accumulator grows by the count over the point's slabs. -/
theorem cntAll_apply (T : IVec S8x5040 32) (acc : FVec Ideal S1x5040 .f32) (r : Fin 5040) :
    cntAll T acc (ix2 0 r) = acc (ix2 0 r) + ∑ k : Fin 8, pos (T (ix2 k r)) := by
  rw [← add_eight]
  unfold cntAll
  simp (disch := decide) only [cntStep_apply, mask_at]
  rfl

/-- The objectness accumulator grows by the sum over the point's slabs. -/
theorem objAll_apply (T : IVec S8x5040 32) (O : Vec Ideal S8x5040 .f32) (acc : FVec Ideal S1x5040 .f32) (r : Fin 5040) :
    objAll T O acc (ix2 0 r) = acc (ix2 0 r)
      + ∑ k : Fin 8, (softplus (O (ix2 k r)) - pos (T (ix2 k r)) * O (ix2 k r)) := by
  rw [← add_eight]
  unfold objAll
  simp (disch := decide) only [objStep_apply, mask_at, row_at]
  rfl

/-- The box accumulator grows by the sum over the point's slabs. -/
theorem locAll_apply (T : IVec S8x5040 32) (L : Vec Ideal S8x8x5040 .f32) (acc : FVec Ideal S1x5040 .f32) (r : Fin 5040) :
    locAll T L acc (ix2 0 r) = acc (ix2 0 r)
      + ∑ k : Fin 8, pos (T (ix2 k r)) * ∑ i : Fin 4,
        (L (ix3 k ⟨i.val, by omega⟩ r) - L (ix3 k ⟨4 + i.val, by omega⟩ r))
          * (L (ix3 k ⟨i.val, by omega⟩ r) - L (ix3 k ⟨4 + i.val, by omega⟩ r)) := by
  rw [← add_eight]
  unfold locAll
  simp (disch := decide) only [locStep_apply, mask_at, box_at]
  rfl

end Cert.KernelIdeal.Loss

end
-- ==== Proof.Body.lean ====
/- The kernel's accumulators point by point: the first grid point starts them at zero, every point adds its eight slabs,
   and the last point turns them into the result. -/
module

public import proofs.«01_k».proof.Proof.Gen.KernelIdeal.Frame
public import proofs.«01_k».proof.Proof.Steps
public import Idealize.ShloMosaic.Lib.Pipeline.ValueKit
public import Idealize.ShloMosaic.Lib.Pipeline.ReadBack

@[expose] public section

set_option maxRecDepth 16384

noncomputable section

namespace Cert.KernelIdeal.Loss

open Idealize.ShloMosaic Cert.Loss Cert.KernelIdeal.Gen

variable {F : FTy → Type} [FloatOps F] (m : (ℓ : Loc nD τ sig) → Buf (Elt F) ℓ) (c : Dev nD)

/-- The eight class blocks of a grid point. -/
def xblk (t : Fin cfg0.N) : Fin 8 → FVec F S1x5040x80 .f32 :=
  ![iblk m c 3 t, iblk m c 4 t, iblk m c 5 t, iblk m c 6 t, iblk m c 7 t, iblk m c 8 t, iblk m c 9 t, iblk m c 10 t]

/-- The first point starts the four accumulators at zero and adds its slabs. -/
theorem first (t : Fin cfg0.N) (h0 : t.val % 10 = 0) :
    (outsAt0 m c t.val t.isLt).2 = (clsAll (iblk m c 0 t) (xblk m c t) k0_pay3,
      objAll (iblk m c 0 t) (iblk m c 1 t) k0_pay4, cntAll (iblk m c 0 t) k0_pay5,
      locAll (iblk m c 0 t) (iblk m c 2 t) k0_pay6) := by
  rw [Gen.outsAt0_A m c t h0 (by omega)]
  refine Prod.ext ?_ (Prod.ext ?_ (Prod.ext ?_ ?_)) <;> dsimp only <;> frame_out <;> rfl

/-- The point before point `t`: its place in the run. -/
theorem pred_lt (t : Fin cfg0.N) : t.val - 1 < cfg0.N := Nat.lt_of_le_of_lt (Nat.sub_le _ _) t.isLt

/-- Every later point adds its slabs to what the point before left. -/
theorem next (t : Fin cfg0.N) (h0 : ¬t.val % 10 = 0) :
    (outsAt0 m c t.val t.isLt).2 = (clsAll (iblk m c 0 t) (xblk m c t) (outsAt0 m c (t.val - 1) (pred_lt t)).2.1,
      objAll (iblk m c 0 t) (iblk m c 1 t) (outsAt0 m c (t.val - 1) (pred_lt t)).2.2.1,
      cntAll (iblk m c 0 t) (outsAt0 m c (t.val - 1) (pred_lt t)).2.2.2.1,
      locAll (iblk m c 0 t) (iblk m c 2 t) (outsAt0 m c (t.val - 1) (pred_lt t)).2.2.2.2) := by
  by_cases h1 : t.val % 10 = 9
  · rw [Gen.outsAt0_C m c t h0 h1]
    refine Prod.ext ?_ (Prod.ext ?_ (Prod.ext ?_ ?_)) <;> dsimp only <;> frame_out <;>
      simp only [read_unread_whole] <;> rfl
  · rw [Gen.outsAt0_B m c t h0 h1]
    refine Prod.ext ?_ (Prod.ext ?_ (Prod.ext ?_ ?_)) <;> dsimp only <;> frame_out <;>
      simp only [read_unread_whole] <;> rfl

/-- The last point's output is the quotient made of its four accumulators. -/
theorem last (t : Fin cfg0.N) (h1 : t.val % 10 = 9) :
    (outsAt0 m c t.val t.isLt).1 = fun _ => k0_pay2 (outsAt0 m c t.val t.isLt).2.2.2.1 (outsAt0 m c t.val t.isLt).2.1
      (outsAt0 m c t.val t.isLt).2.2.1 (outsAt0 m c t.val t.isLt).2.2.2.2 := by
  rw [Gen.outsAt0_C m c t (by omega) h1]
  dsimp only
  frame_out
  rfl

/-- The quotient over the extended reals: the class sum's eighth, the objectness sum and half the box sum, over the count. -/
theorem quotient (n : FVec Ideal S1x5040 .f32) (v : FVec Ideal S8x80 .f32) (o l : FVec Ideal S1x5040 .f32) :
    k0_pay2 (F := Ideal) n v o l = Ideal.div ((∑ a : Fin 8, ∑ j : Fin 80, v (ix2 a j)) * ((1 / 8 : ℝ) : EReal)
      + ∑ r : Fin 5040, o (ix2 0 r) + ((1 / 2 : ℝ) : EReal) * ∑ r : Fin 5040, l (ix2 0 r)) (∑ r : Fin 5040, n (ix2 0 r)) := by
  pointwise [k0_pay2]
  rw [word_eighth, word_half]
  simp only [Finset.univ_unique, Finset.sum_singleton]

end Cert.KernelIdeal.Loss

end
-- ==== Proof.Blocks.lean ====
/- The blocks a grid point reads, as the predictions counted through: element `r` of the point's slab `k` is prediction
   `r + 5040 * (8 t + k)`, counted image by image. -/
module

public import proofs.«01_k».proof.Proof.Body

@[expose] public section

set_option maxRecDepth 16384

noncomputable section

namespace Cert.KernelIdeal.Loss

open Idealize.ShloMosaic Cert.Loss Cert.KernelIdeal.Gen

variable {F : FTy → Type} [FloatOps F] (m : (ℓ : Loc nD τ sig) → Buf (Elt F) ℓ) (c : Dev nD)

/-- Prediction `p`, counted through, of an array of one value per prediction. -/
def at2 {α : Type} (x : S16x25200.Idx → α) (p : ℕ) : α :=
  x (ix2 ⟨p / 25200 % 16, Nat.mod_lt _ (by decide)⟩ ⟨p % 25200, Nat.mod_lt _ (by decide)⟩)

/-- Value `j` of prediction `p`, counted through, of an array of several values per prediction. -/
def at3 {α : Type} {n : ℕ} (x : (⟨3, ![16, 25200, n]⟩ : Shape).Idx → α) (p : ℕ) (j : Fin n) : α :=
  x (ix3 ⟨p / 25200 % 16, Nat.mod_lt _ (by decide)⟩ ⟨p % 25200, Nat.mod_lt _ (by decide)⟩ j)

/-- The class window's block index. -/
theorem idx0 : ∀ t, win0_0.index t = ![t.val, 0] := by decide +kernel
/-- The objectness window's block index. -/
theorem idx1 : ∀ t, win0_1.index t = ![t.val, 0] := by decide +kernel
/-- The box window's block index. -/
theorem idx2 : ∀ t, win0_2.index t = ![t.val, 0, 0] := by decide +kernel
/-- Class window 0's block index: slab `8 t + 0`, five slabs to an image. -/
theorem idx3 : ∀ t, win0_3.index t = ![(8 * t.val + 0) / 5, (8 * t.val + 0) % 5, 0] := by decide +kernel
/-- Class window 1's block index: slab `8 t + 1`, five slabs to an image. -/
theorem idx4 : ∀ t, win0_4.index t = ![(8 * t.val + 1) / 5, (8 * t.val + 1) % 5, 0] := by decide +kernel
/-- Class window 2's block index: slab `8 t + 2`, five slabs to an image. -/
theorem idx5 : ∀ t, win0_5.index t = ![(8 * t.val + 2) / 5, (8 * t.val + 2) % 5, 0] := by decide +kernel
/-- Class window 3's block index: slab `8 t + 3`, five slabs to an image. -/
theorem idx6 : ∀ t, win0_6.index t = ![(8 * t.val + 3) / 5, (8 * t.val + 3) % 5, 0] := by decide +kernel
/-- Class window 4's block index: slab `8 t + 4`, five slabs to an image. -/
theorem idx7 : ∀ t, win0_7.index t = ![(8 * t.val + 4) / 5, (8 * t.val + 4) % 5, 0] := by decide +kernel
/-- Class window 5's block index: slab `8 t + 5`, five slabs to an image. -/
theorem idx8 : ∀ t, win0_8.index t = ![(8 * t.val + 5) / 5, (8 * t.val + 5) % 5, 0] := by decide +kernel
/-- Class window 6's block index: slab `8 t + 6`, five slabs to an image. -/
theorem idx9 : ∀ t, win0_9.index t = ![(8 * t.val + 6) / 5, (8 * t.val + 6) % 5, 0] := by decide +kernel
/-- Class window 7's block index: slab `8 t + 7`, five slabs to an image. -/
theorem idx10 : ∀ t, win0_10.index t = ![(8 * t.val + 7) / 5, (8 * t.val + 7) % 5, 0] := by decide +kernel

/-- The kernel's class array is the argument in rows of 5040. -/
theorem V_v0 : V m c main_v0 = shapeCast S80x5040 (m (c, Proc.devRef .tc main_arg4)) shapeCasts_S16x25200_S80x5040 := by
  show StableHlo.after [hostOps0].flatten (fun b => m (c, b)) (Proc.tc.devRef main_v0) = _
  simp only [hostOps0, List.flatten_cons, List.flatten_nil, List.append_nil, List.cons_append, List.nil_append]
  after_results
  rfl
/-- The kernel's objectness array is the argument in rows of 5040. -/
theorem V_v1 : V m c main_v1 = shapeCast S80x5040 (m (c, Proc.devRef .tc main_arg1)) shapeCasts_S16x25200_S80x5040 := by
  show StableHlo.after [hostOps0].flatten (fun b => m (c, b)) (Proc.tc.devRef main_v1) = _
  simp only [hostOps0, List.flatten_cons, List.flatten_nil, List.append_nil, List.cons_append, List.nil_append]
  after_results
  rfl
/-- The kernel's box array: predicted and true boxes side by side, coordinates before predictions. -/
theorem V_v5 : V m c main_v5 = shapeCast S80x8x5040 (transpose S16x5x8x5040 [0, 1, 3, 2] (shapeCast S16x5x5040x8
    (concatenate S16x25200x8 2 [⟨S16x25200x4, m (c, Proc.devRef .tc main_arg0)⟩,
      ⟨S16x25200x4, m (c, Proc.devRef .tc main_arg3)⟩] concatenates_S16x25200x4_S16x25200x4_S16x25200x8_d2)
    shapeCasts_S16x25200x8_S16x5x5040x8) transposes_S16x5x5040x8_S16x5x8x5040_0_1_3_2) shapeCasts_S16x5x8x5040_S80x8x5040 := by
  show StableHlo.after [hostOps0].flatten (fun b => m (c, b)) (Proc.tc.devRef main_v5) = _
  simp only [hostOps0, List.flatten_cons, List.flatten_nil, List.append_nil, List.cons_append, List.nil_append]
  after_results
  rfl

/-- An array in rows of 5040 read at a row and a lane. -/
theorem rows_apply {α : Type} (x : S16x25200.Idx → α) (s : Fin 80) (r : Fin 5040) :
    shapeCast S80x5040 x shapeCasts_S16x25200_S80x5040 (ix2 s r) = at2 x (r.val + 5040 * s.val) := by
  unfold at2
  pointwise
  congr 2 <;> apply Fin.ext <;> dsimp only <;> omega

/-- The box array read at a slab, a coordinate and a lane. -/
theorem boxes_apply {α : Type} (x y : S16x25200x4.Idx → α) (s : Fin 80) (i : Fin 8) (r : Fin 5040) :
    shapeCast S80x8x5040 (transpose S16x5x8x5040 [0, 1, 3, 2] (shapeCast S16x5x5040x8
      (concatenate S16x25200x8 2 [⟨S16x25200x4, x⟩, ⟨S16x25200x4, y⟩] concatenates_S16x25200x4_S16x25200x4_S16x25200x8_d2)
      shapeCasts_S16x25200x8_S16x5x5040x8) transposes_S16x5x5040x8_S16x5x8x5040_0_1_3_2)
      shapeCasts_S16x5x8x5040_S80x8x5040 (ix3 s i r)
    = if h : i.val < 4 then at3 x (r.val + 5040 * s.val) ⟨i.val, h⟩
      else at3 y (r.val + 5040 * s.val) ⟨i.val - 4, by omega⟩ := by
  unfold at3
  pointwise
  split <;> congr 2 <;> apply Fin.ext <;> dsimp only <;> omega

/-- The grid has ten points. -/
theorem lt_ten (t : Fin cfg0.N) : t.val < 10 := lt_of_lt_of_eq t.isLt N_0

/-- The classes a point reads. -/
theorem tblk (t : Fin cfg0.N) (k : Fin 8) (r : Fin 5040) :
    iblk m c 0 t (ix2 k r) = at2 (m (c, Proc.devRef .tc main_arg4)) (r.val + 5040 * (8 * t.val + k.val)) := by
  have h8 := lt_ten t
  rw [← rows_apply _ ⟨8 * t.val + k.val, by omega⟩, ← V_v0]
  blk_simp [iblk]
  refine congrArg (V m c main_v0) (funext fun a => Fin.ext ?_)
  match a with
  | ⟨0, _⟩ => blk_simp [idx0 t]; exact congrArg (· + k.val) (mul_comm t.val 8)
  | ⟨1, _⟩ => blk_simp [idx0 t]

/-- The objectness logits a point reads. -/
theorem oblk (t : Fin cfg0.N) (k : Fin 8) (r : Fin 5040) :
    iblk m c 1 t (ix2 k r) = at2 (m (c, Proc.devRef .tc main_arg1)) (r.val + 5040 * (8 * t.val + k.val)) := by
  have h8 := lt_ten t
  rw [← rows_apply _ ⟨8 * t.val + k.val, by omega⟩, ← V_v1]
  blk_simp [iblk]
  refine congrArg (V m c main_v1) (funext fun a => Fin.ext ?_)
  match a with
  | ⟨0, _⟩ => blk_simp [idx1 t]; exact congrArg (· + k.val) (mul_comm t.val 8)
  | ⟨1, _⟩ => blk_simp [idx1 t]

/-- The boxes a point reads: the predicted coordinates in the first four rows, the true ones in the last four. -/
theorem lblk (t : Fin cfg0.N) (k : Fin 8) (i : Fin 8) (r : Fin 5040) :
    iblk m c 2 t (ix3 k i r)
    = if h : i.val < 4 then at3 (m (c, Proc.devRef .tc main_arg0)) (r.val + 5040 * (8 * t.val + k.val)) ⟨i.val, h⟩
      else at3 (m (c, Proc.devRef .tc main_arg3)) (r.val + 5040 * (8 * t.val + k.val)) ⟨i.val - 4, by omega⟩ := by
  have h8 := lt_ten t
  refine Eq.trans ?_ (boxes_apply _ _ ⟨8 * t.val + k.val, by omega⟩ i r)
  rw [← V_v5]
  blk_simp [iblk]
  refine congrArg (V m c main_v5) (funext fun a => Fin.ext ?_)
  match a with
  | ⟨0, _⟩ => blk_simp [idx2 t]; exact congrArg (· + k.val) (mul_comm t.val 8)
  | ⟨1, _⟩ => blk_simp [idx2 t]
  | ⟨2, _⟩ => blk_simp [idx2 t]

/-- The image of a prediction of slab `σ`. -/
theorem image_of {σ : ℕ} (hσ : σ < 80) (r : Fin 5040) : σ / 5 + 0 = (r.val + 5040 * σ) / 25200 % 16 := by omega
/-- The place in its image of a prediction of slab `σ`. -/
theorem place_of {σ : ℕ} (hσ : σ < 80) (r : Fin 5040) : σ % 5 * 5040 + r.val = (r.val + 5040 * σ) % 25200 := by omega

/-- The class logits a point reads. -/
theorem cblk (t : Fin cfg0.N) (k : Fin 8) (r : Fin 5040) (j : Fin 80) :
    xblk m c t k (ix3 0 r j) = at3 (m (c, Proc.devRef .tc main_arg2)) (r.val + 5040 * (8 * t.val + k.val)) j := by
  have h8 := lt_ten t
  rw [at3, ← V_main_arg2 m c]
  fin_cases k
  all_goals
    dsimp only [xblk]
    blk_simp [iblk]
    refine congrArg (V m c main_arg2) (funext fun a => Fin.ext ?_)
    match a with
    | ⟨0, _⟩ => blk_simp [idx3 t, idx4 t, idx5 t, idx6 t, idx7 t, idx8 t, idx9 t, idx10 t]; exact image_of (by omega) r
    | ⟨1, _⟩ => blk_simp [idx3 t, idx4 t, idx5 t, idx6 t, idx7 t, idx8 t, idx9 t, idx10 t]; exact place_of (by omega) r
    | ⟨2, _⟩ => blk_simp [idx3 t, idx4 t, idx5 t, idx6 t, idx7 t, idx8 t, idx9 t, idx10 t]

end Cert.KernelIdeal.Loss

end
-- ==== Proof.Total.lean ====
/- What the kernel's accumulators hold after the last grid point, and the loss it makes of them: four sums over all the
   predictions. -/
module

public import proofs.«01_k».proof.Proof.Blocks

@[expose] public section

set_option maxRecDepth 16384

noncomputable section

namespace Cert.KernelIdeal.Loss

open Idealize.ShloMosaic Cert.Loss Cert.KernelIdeal.Gen

/-- The class loss of a prediction of class word `w` in one class. -/
def clsTerm (w : BitVec 32) (j : ℕ) (x : EReal) : EReal := pos w * (softplus x - hot w j x)
/-- The objectness loss of a prediction of class word `w`. -/
def objTerm (w : BitVec 32) (x : EReal) : EReal := softplus x - pos w * x
/-- The box loss of a prediction of class word `w`. -/
def locTerm (w : BitVec 32) (p q : Fin 4 → EReal) : EReal := pos w * ∑ i : Fin 4, (p i - q i) * (p i - q i)

/-- The kernel's loss: the class, objectness and half the box loss over all predictions, over the number of positives. -/
def loss (P : S16x25200x4.Idx → EReal) (O : S16x25200.Idx → EReal) (C : S16x25200x80.Idx → EReal)
    (Q : S16x25200x4.Idx → EReal) (T : S16x25200.Idx → BitVec 32) : EReal :=
  Ideal.div ((∑ b : Fin 16, ∑ n : Fin 25200, ∑ j : Fin 80, clsTerm (T (ix2 b n)) j.val (C (ix3 b n j)))
      + (∑ b : Fin 16, ∑ n : Fin 25200, objTerm (T (ix2 b n)) (O (ix2 b n)))
      + ((1 / 2 : ℝ) : EReal) * ∑ b : Fin 16, ∑ n : Fin 25200,
          locTerm (T (ix2 b n)) (fun i => P (ix3 b n i)) (fun i => Q (ix3 b n i)))
    (∑ b : Fin 16, ∑ n : Fin 25200, pos (T (ix2 b n)))

/-- A prediction counted through is the prediction of its image and place. -/
theorem at2_flat {α : Type} (x : S16x25200.Idx → α) (b : Fin 16) (n : Fin 25200) :
    at2 x (n.val + 25200 * b.val) = x (ix2 b n) := by
  unfold at2
  congr 2 <;> apply Fin.ext <;> dsimp only <;> omega

/-- The same for arrays of several values per prediction. -/
theorem at3_flat {α : Type} {k : ℕ} (x : (⟨3, ![16, 25200, k]⟩ : Shape).Idx → α) (b : Fin 16) (n : Fin 25200) (j : Fin k) :
    at3 x (n.val + 25200 * b.val) j = x (ix3 b n j) := by
  unfold at3
  congr 2 <;> apply Fin.ext <;> dsimp only <;> omega

/-- Lanes outermost, the predictions counted by slab are the predictions counted by image. -/
theorem sum_lanes (H : ℕ → EReal) :
    ∑ r : Fin 5040, ∑ s : Fin 10, ∑ k : Fin 8, H (r.val + 5040 * (8 * s.val + k.val))
      = ∑ b : Fin 16, ∑ n : Fin 25200, H (n.val + 25200 * b.val) := by
  rw [← sum_slabs, Finset.sum_comm]
  exact Finset.sum_congr rfl fun s _ => Finset.sum_comm

/-- Classes outermost or innermost. -/
theorem sum_rot (f : Fin 80 → Fin 16 → Fin 25200 → EReal) : ∑ j, ∑ b, ∑ n, f j b n = ∑ b, ∑ n, ∑ j, f j b n := by
  rw [Finset.sum_comm]
  exact Finset.sum_congr rfl fun b _ => Finset.sum_comm

variable (m : (ℓ : Loc nD τ sig) → Buf (Elt Ideal) ℓ) (c : Dev nD)

/-- The argument arrays. -/
abbrev aP : S16x25200x4.Idx → EReal := m (c, Proc.devRef .tc main_arg0)
/-- The objectness logits. -/
abbrev aO : S16x25200.Idx → EReal := m (c, Proc.devRef .tc main_arg1)
/-- The class logits. -/
abbrev aC : S16x25200x80.Idx → EReal := m (c, Proc.devRef .tc main_arg2)
/-- The true boxes. -/
abbrev aQ : S16x25200x4.Idx → EReal := m (c, Proc.devRef .tc main_arg3)
/-- The classes. -/
abbrev aT : S16x25200.Idx → BitVec 32 := m (c, Proc.devRef .tc main_arg4)

/-- A family over the grid that starts with the first point's increment and grows by each later one's is, at the last
    point, the sum of the ten increments. -/
theorem grid_sum (acc : (n : ℕ) → n < cfg0.N → EReal) (p : ℕ → EReal)
    (h0 : ∀ t : Fin cfg0.N, t.val % 10 = 0 → acc t.val t.isLt = p t.val)
    (hs : ∀ t : Fin cfg0.N, ¬t.val % 10 = 0 → acc t.val t.isLt = acc (t.val - 1) (pred_lt t) + p t.val)
    (h : 9 < cfg0.N) : acc 9 h = ∑ s : Fin 10, p s.val :=
  running_sum acc (fun s => p s.val) (fun h => h0 ⟨0, h⟩ rfl)
    (fun n h => hs ⟨n + 1, h⟩ (by have := lt_ten ⟨n + 1, h⟩; dsimp only at this ⊢; omega)) 9 h

/-- The class accumulator after the last point, lane by lane. -/
theorem cls_total (h : 9 < cfg0.N) (a : Fin 8) (j : Fin 80) : (outsAt0 m c 9 h).2.1 (ix2 a j)
    = ∑ s : Fin 10, ∑ k : Fin 8, ∑ r : Fin 5040, clsTerm (at2 (aT m c) (r.val + 5040 * (8 * s.val + k.val))) j.val
        (at3 (aC m c) (r.val + 5040 * (8 * s.val + k.val)) j) := by
  refine grid_sum (fun n h => (outsAt0 m c n h).2.1 (ix2 a j)) (fun s => ∑ k : Fin 8, ∑ r : Fin 5040,
    clsTerm (at2 (aT m c) (r.val + 5040 * (8 * s + k.val))) j.val (at3 (aC m c) (r.val + 5040 * (8 * s + k.val)) j))
    (fun t h0 => ?_) (fun t h0 => ?_) h
  · rw [first m c t h0]
    dsimp only
    rw [clsAll_apply]
    simp only [tblk, cblk]
    rw [show k0_pay3 (F := Ideal) (ix2 a j) = 0 by pointwise [k0_pay3], zero_add]
    rfl
  · rw [next m c t h0]
    dsimp only
    rw [clsAll_apply]
    simp only [tblk, cblk]
    rfl

/-- The objectness accumulator after the last point, lane by lane. -/
theorem obj_total (h : 9 < cfg0.N) (r : Fin 5040) : (outsAt0 m c 9 h).2.2.1 (ix2 0 r)
    = ∑ s : Fin 10, ∑ k : Fin 8, objTerm (at2 (aT m c) (r.val + 5040 * (8 * s.val + k.val)))
        (at2 (aO m c) (r.val + 5040 * (8 * s.val + k.val))) := by
  refine grid_sum (fun n h => (outsAt0 m c n h).2.2.1 (ix2 0 r)) (fun s => ∑ k : Fin 8,
    objTerm (at2 (aT m c) (r.val + 5040 * (8 * s + k.val))) (at2 (aO m c) (r.val + 5040 * (8 * s + k.val))))
    (fun t h0 => ?_) (fun t h0 => ?_) h
  · rw [first m c t h0]
    dsimp only
    rw [objAll_apply]
    simp only [tblk, oblk]
    rw [show k0_pay4 (F := Ideal) (ix2 0 r) = 0 by pointwise [k0_pay4], zero_add]
    rfl
  · rw [next m c t h0]
    dsimp only
    rw [objAll_apply]
    simp only [tblk, oblk]
    rfl

/-- The count accumulator after the last point, lane by lane. -/
theorem cnt_total (h : 9 < cfg0.N) (r : Fin 5040) : (outsAt0 m c 9 h).2.2.2.1 (ix2 0 r)
    = ∑ s : Fin 10, ∑ k : Fin 8, pos (at2 (aT m c) (r.val + 5040 * (8 * s.val + k.val))) := by
  refine grid_sum (fun n h => (outsAt0 m c n h).2.2.2.1 (ix2 0 r)) (fun s => ∑ k : Fin 8,
    pos (at2 (aT m c) (r.val + 5040 * (8 * s + k.val)))) (fun t h0 => ?_) (fun t h0 => ?_) h
  · rw [first m c t h0]
    dsimp only
    rw [cntAll_apply]
    simp only [tblk]
    rw [show k0_pay5 (F := Ideal) (ix2 0 r) = 0 by pointwise [k0_pay5], zero_add]
  · rw [next m c t h0]
    dsimp only
    rw [cntAll_apply]
    simp only [tblk]

/-- The box accumulator after the last point, lane by lane. -/
theorem loc_total (h : 9 < cfg0.N) (r : Fin 5040) : (outsAt0 m c 9 h).2.2.2.2 (ix2 0 r)
    = ∑ s : Fin 10, ∑ k : Fin 8, locTerm (at2 (aT m c) (r.val + 5040 * (8 * s.val + k.val)))
        (fun i => at3 (aP m c) (r.val + 5040 * (8 * s.val + k.val)) i)
        (fun i => at3 (aQ m c) (r.val + 5040 * (8 * s.val + k.val)) i) := by
  have e (t : Fin cfg0.N) (k : Fin 8) (i : Fin 4) :
      HSub.hSub (α := EReal) (β := EReal) (γ := EReal) (iblk m c 2 t (ix3 k ⟨i.val, by omega⟩ r))
          (iblk m c 2 t (ix3 k ⟨4 + i.val, by omega⟩ r))
        = at3 (aP m c) (r.val + 5040 * (8 * t.val + k.val)) i - at3 (aQ m c) (r.val + 5040 * (8 * t.val + k.val)) i := by
    rw [lblk, lblk, dif_pos i.isLt, dif_neg (by dsimp only; omega)]
    congr 2
    exact Fin.ext (by dsimp only; omega)
  refine grid_sum (fun n h => (outsAt0 m c n h).2.2.2.2 (ix2 0 r)) (fun s => ∑ k : Fin 8,
    locTerm (at2 (aT m c) (r.val + 5040 * (8 * s + k.val))) (fun i => at3 (aP m c) (r.val + 5040 * (8 * s + k.val)) i)
      (fun i => at3 (aQ m c) (r.val + 5040 * (8 * s + k.val)) i)) (fun t h0 => ?_) (fun t h0 => ?_) h
  · rw [first m c t h0]
    dsimp only
    rw [locAll_apply]
    simp only [tblk, e]
    rw [show k0_pay6 (F := Ideal) (ix2 0 r) = 0 by pointwise [k0_pay6], zero_add]
    rfl
  · rw [next m c t h0]
    dsimp only
    rw [locAll_apply]
    simp only [tblk, e]
    rfl

/-- The output after the last point is the loss. -/
theorem out_total (h : 9 < cfg0.N) : (outsAt0 m c 9 h).1 = fun _ => loss (aP m c) (aO m c) (aC m c) (aQ m c) (aT m c) := by
  rw [last m c ⟨9, h⟩ rfl]
  funext _
  dsimp only
  rw [quotient]
  have e (j : Fin 80) := sum_slabs fun p => clsTerm (at2 (aT m c) p) j.val (at3 (aC m c) p j)
  simp only [cls_total, obj_total, cnt_total, loc_total, e,
    sum_lanes fun p => objTerm (at2 (aT m c) p) (at2 (aO m c) p), sum_lanes fun p => pos (at2 (aT m c) p),
    sum_lanes fun p => locTerm (at2 (aT m c) p) (fun i => at3 (aP m c) p i) (fun i => at3 (aQ m c) p i),
    at2_flat, at3_flat]
  rw [eighth_of_eight, sum_rot, loss]

end Cert.KernelIdeal.Loss

end
-- ==== Proof.Result.lean ====
/- What a run of the kernel's program leaves in its result: the loss. -/
module

public import proofs.«01_k».proof.Proof.Total

@[expose] public section

set_option maxRecDepth 16384

noncomputable section

namespace Cert.KernelIdeal.Loss

open Idealize.ShloMosaic Idealize.SL.Sem Cert.Loss Cert.KernelIdeal.Gen

variable (m : (ℓ : Loc nD τ sig) → Buf (Elt Ideal) ℓ) (g : Dev nD → PrngReg)

/-- The region's output array, written back after the last grid point, holds the loss. -/
theorem out_array (c : Dev nD) :
    (dats m 0 c).arrAt 11 cfg0.N = fun _ => loss (aP m c) (aO m c) (aC m c) (aQ m c) (aT m c) := by
  refine (dats m 0 c).arrAt_eq_of_after_last 11 t0_9 (by decide +kernel) _ fun j => ?_
  rw [after0_11]
  exact congrFun (out_total m c _) j

/-- After the region the output's buffer holds the region's output array. -/
theorem out_buffer (c : Dev nD) : Pipeline.withArrays (cfgs 0).spec c (V0 m c) (fun w => (dats m 0 c).arrAt w (cfgs 0).N)
      (Proc.devRef .tc main_v6) = fun _ => loss (aP m c) (aO m c) (aC m c) (aQ m c) (aT m c) :=
  (Pipeline.withArrays_arr_shared spec0 c (V0 m c) _ ((dats m 0 c).arrAt_sharedIn sharedIn0 (V0 m c) (A_eq m c) _) 11).trans
    (out_array m c)

/-- Every run ends with the loss as the result. -/
theorem run : θ_run defs (onTc (τ := τ) (main (F := Ideal))) ⟨m, fun _ => 0, g⟩ fun r => ∀ c : Dev nD,
    r.2.mem ((c.tc : Thread nD τ).loc main_v7) = fun _ => loss (aP m c) (aO m c) (aC m c) (aQ m c) (aT m c) := by
  run_from Gen.run_main m g
  unfold Pipeline.afterTail₀
  simp only [hostOps1, List.flatten_cons, List.flatten_nil, List.append_nil, List.cons_append, List.nil_append]
  after_results
  funext i
  exact congrFun (out_buffer m c) _

end Cert.KernelIdeal.Loss

end
-- ==== Proof.Count.lean ====
/- The integer side: the count of a mask over all predictions, summed as 32-bit words, is the sum of the mask as numbers;
   and what an `or` and an `and` over all predictions say. -/
module

public import proofs.«01_k».proof.Proof.Algebra
public import Idealize.ShloMosaic.Lib.StableHlo.Predicate
public import Idealize.ShloMosaic.Lib.ReduceAll
public import Idealize.ShloMosaic.Lib.Routing.OpsOrder

@[expose] public section

noncomputable section

namespace Cert.Loss

open Idealize.ShloMosaic

/-- The shape of one value per prediction. -/
abbrev Preds : Shape := ⟨2, ![16, 25200]⟩
/-- The shape of a single value. -/
abbrev One : Shape := ⟨0, ![]⟩

/-- A reduction over every axis folds over every index. -/
theorem reduce_all {α : Type} (f : α → α → α) [Std.Commutative f] [Std.Associative f] (x : Preds.Idx → α) (v : One.Idx → α)
    (h : Preds.ReducesTo [0, 1] One) (hu : 0 < One.numel) (j : One.Idx) :
    Host.reduce f x v h hu j = Finset.univ.fold f (v (Shape.Idx.first hu)) x := by
  rw [Host.reduce_eq_fold, Finset.filter_true_of_mem fun i _ => funext fun a => a.elim0]

/-- A sum of naturals as a number is the sum of the numbers. -/
theorem cast_sum {ι : Type*} (s : Finset ι) (f : ι → ℕ) :
    ((((∑ i ∈ s, f i : ℕ) : ℤ) : ℝ) : EReal) = ∑ i ∈ s, ((f i : ℝ) : EReal) := by
  classical
  induction s using Finset.induction_on with
  | empty => simp
  | insert a s ha ih => rw [Finset.sum_insert ha, Finset.sum_insert ha, ← ih]; push_cast; rfl

/-- A mask summed as 32-bit words and read as a number is the sum of the mask's numbers: at most 403200 ones do not wrap. -/
theorem count_words (b : Preds.Idx → BitVec 1) (hw : 1 < 32) (h : Preds.ReducesTo [0, 1] One) (hu : 0 < One.numel)
    (j : One.Idx) : (((Host.reduce IntOp.addi (extui 32 b hw) (constantI One 32 0#32) h hu j).toInt : ℝ) : EReal)
      = ∑ i : Preds.Idx, (((b i).toNat : ℝ) : EReal) := by
  have e (i : Preds.Idx) : ((extui 32 b hw) i).toNat = (b i).toNat := by
    show ((b i).setWidth 32).toNat = _
    rcases BitVec.eq_zero_or_eq_one (b i) with h | h <;> rw [h] <;> rfl
  have hle : ∑ i : Preds.Idx, ((extui 32 b hw) i).toNat ≤ 403200 := by
    rw [sum_idx2]
    refine (Finset.sum_le_card_nsmul _ _ 25200 fun p _ => (Finset.sum_le_card_nsmul _ _ 1 fun q _ => ?_).trans ?_).trans ?_
    · rw [e]; have := (b (ix2 p q)).isLt; omega
    · simp
    · simp
  have hc : (Host.reduce IntOp.addi (extui 32 b hw) (constantI One 32 0#32) h hu j).toNat = ∑ i : Preds.Idx, (b i).toNat := by
    rw [reduce_all]
    exact (StableHlo.Predicate.toNat_fold_addi _ _ (by omega)).trans (Finset.sum_congr rfl fun i _ => e i)
  have hlt : ∑ i : Preds.Idx, (b i).toNat < 2 ^ 31 := by
    rw [← Finset.sum_congr rfl fun i _ => e i]; omega
  rw [StableHlo.Predicate.toInt_eq_toNat_of_lt (hc.trans_lt hlt), hc]
  exact cast_sum _ _

/-- An `or` over all predictions that is 1 met a 1. -/
theorem some_of_or (b : Preds.Idx → BitVec 1) (h : Preds.ReducesTo [0, 1] One) (hu : 0 < One.numel) (j : One.Idx)
    (e : Host.reduce IntOp.ori b (constantI One 1 0#1) h hu j = 1#1) : ∃ i, b i = 1#1 := by
  rw [reduce_all] at e
  obtain ⟨i, _, hi⟩ := (Routing.fold_ori _ _).1 e
  exact ⟨i, hi⟩

end Cert.Loss

end
-- ==== Proof.Reference.lean ====
/- What the reference computes: term by term the same summands as the kernel's loss, once no background prediction is
   ignored; divided one sum at a time by a positive count, they are the loss. -/
module

public import proofs.«01_k».proof.Proof.Total
public import proofs.«01_k».proof.Proof.Count
public import proofs.«01_k».proof.Proof.Gen.ReferenceIdeal.Read

@[expose] public section

set_option maxRecDepth 16384

noncomputable section

namespace Cert.ReferenceIdeal.Loss

open Idealize.ShloMosaic Cert.Loss Cert.ReferenceIdeal.Gen Cert.ReferenceIdeal.Read
open Cert.KernelIdeal.Loss (pos hot clsTerm objTerm locTerm loss)

variable (P Q : S16x25200x4.Idx → EReal) (O : S16x25200.Idx → EReal) (C : S16x25200x80.Idx → EReal)
  (T : S16x25200.Idx → BitVec 32) (G : S16x25200.Idx → BitVec 1)

/-- A bit as a number is its value. -/
theorem bit_number (b : BitVec 1) : (FloatOps.uitofp (F := Ideal) .f32 b : EReal) = if b = 1#1 then 1 else 0 := by
  show (((b.toNat : ℝ)) : EReal) = _
  rcases BitVec.eq_zero_or_eq_one b with h | h <;> subst h <;> simp

/-- A class word differs from 0 when the comparison says so. -/
theorem ne_bit (w : BitVec 32) : IntOp.cmpi .ne w 0#32 = if w = 0#32 then 0#1 else 1#1 := by
  by_cases h : w = 0#32
  · subst h; rfl
  · rw [if_neg h]
    show BitVec.ofBool (w != 0#32) = 1#1
    rw [bne_iff_ne.2 h]
    rfl

/-- The mask of the positives. -/
theorem pos_at (i : S16x25200.Idx) : val_main_v5 (F := Ideal) T i = pos (T i) := by
  pointwise [val_main_v5, val_main_v1, val_main_v0, val_main_c]
  rw [bit_number, ne_bit, pos]
  by_cases h : T i = 0#32 <;> simp [h]

/-- The objectness cross entropy against 1. -/
theorem obj_one (b : Fin 16) (n : Fin 25200) :
    val_main_v15 (F := Ideal) O (ix2 b n) = softplus (O (ix2 b n)) - O (ix2 b n) := by
  pointwise [val_main_v15, val_main_v14, val_main_v13, val_main_v12, val_main_v11, val_main_v10, val_main_v9,
    val_main_v8, val_main_v7, val_main_v6, val_main_cst, val_main_cst_1]
  rw [← bce_one, mul_one]
  rfl

/-- The objectness cross entropy against 0. -/
theorem obj_zero (b : Fin 16) (n : Fin 25200) : val_main_v32 (F := Ideal) O (ix2 b n) = softplus (O (ix2 b n)) := by
  pointwise [val_main_v32, val_main_v31, val_main_v30, val_main_v29, val_main_v28, val_main_v27, val_main_v26,
    val_main_v25, val_main_v24, val_main_v23, val_main_cst_3, val_main_cst_4]
  rw [← bce_zero]
  rfl

/-- The mask of the background, when no background prediction is ignored, is what the positives leave. -/
theorem neg_at (b : Fin 16) (n : Fin 25200) (h : T (ix2 b n) ≠ 0#32 ∨ G (ix2 b n) = 0#1) :
    val_main_v22 (F := Ideal) T G (ix2 b n) = if T (ix2 b n) = 0#32 then 1 else 0 := by
  pointwise [val_main_v22, val_main_v21, val_main_v20, val_main_v19, val_main_v1, val_main_v0, val_main_c]
  rw [bit_number, ne_bit]
  by_cases hT : T (ix2 b n) = 0#32
  · rw [h.resolve_left (not_not.2 hT)]; simp [hT, IntOp.andi]
  · simp [hT, IntOp.andi]

/-- The two objectness terms of a prediction together are the kernel's one. -/
theorem obj_at (b : Fin 16) (n : Fin 25200) (h : T (ix2 b n) ≠ 0#32 ∨ G (ix2 b n) = 0#1) :
    val_main_v16 (F := Ideal) O T (ix2 b n) + val_main_v33 (F := Ideal) O T G (ix2 b n)
      = objTerm (T (ix2 b n)) (O (ix2 b n)) := by
  rw [val_main_v16_apply, val_main_v33_apply, obj_one, obj_zero, neg_at T G b n h, pos_at]
  show (softplus (O (ix2 b n)) - O (ix2 b n)) * pos (T (ix2 b n))
    + softplus (O (ix2 b n)) * (if T (ix2 b n) = 0#32 then 1 else 0) = softplus (O (ix2 b n)) - pos (T (ix2 b n)) * O (ix2 b n)
  rw [pos]
  by_cases hT : T (ix2 b n) = 0#32
  · rw [if_pos hT, if_pos hT, mul_zero, mul_one, zero_add, zero_mul, sub_zero]
  · rw [if_neg hT, if_neg hT, mul_zero, mul_one, add_zero, one_mul]

/-- The box loss of a prediction in one coordinate. -/
theorem loc_at (b : Fin 16) (n : Fin 25200) (j : Fin 4) : val_main_v42 (F := Ideal) P Q T (ix3 b n j)
    = pos (T (ix2 b n)) * ((P (ix3 b n j) - Q (ix3 b n j)) * (P (ix3 b n j) - Q (ix3 b n j))) := by
  pointwise [val_main_v42, val_main_v41, val_main_v40, val_main_v39, val_main_v38, pos_at]
  exact mul_comm _ _

/-- The box loss of a prediction spread over its coordinates. -/
theorem loc_spread (w : BitVec 32) (p q : Fin 4 → EReal) :
    locTerm w p q = ∑ i : Fin 4, pos w * ((p i - q i) * (p i - q i)) :=
  mask_sum _ _ (by unfold pos; split_ifs <;> simp)

/-- The one-hot entry of a class, the background class 0 cut off. -/
theorem hot_at (b : Fin 16) (n : Fin 25200) (j : Fin 80) : val_main_v47 (F := Ideal) T (ix3 b n j)
    = if BitVec.ofNat 32 j.val = T (ix2 b n) - 1#32 then 1 else 0 := by
  pointwise [val_main_v47, val_main_v46, val_main_call0_v4, val_main_call0_v3, val_main_call0_v2, val_main_call0_v1,
    val_main_call0_v0]
  have e : IntOp.cmpi .eq (T (ix2 b n)) (BitVec.ofNat 32 (1 + j.val)) = 1#1 ↔ BitVec.ofNat 32 j.val = T (ix2 b n) - 1#32 := by
    rw [StableHlo.Predicate.cmpi_eq_iff, add_comm 1 j.val, BitVec.ofNat_add]
    exact ⟨fun h => by rw [h]; exact (BitVec.add_sub_cancel _ _).symm,
      fun h => by rw [h]; exact (BitVec.sub_add_cancel _ _).symm⟩
  rw [bit_number, if_congr e rfl rfl]

/-- The class loss of a prediction in one class. -/
theorem cls_at (b : Fin 16) (n : Fin 25200) (j : Fin 80) : val_main_v59 (F := Ideal) C T (ix3 b n j)
    = clsTerm (T (ix2 b n)) j.val (C (ix3 b n j)) := by
  pointwise [val_main_v59, val_main_v58, val_main_v57, val_main_v56, val_main_v55, val_main_v54, val_main_v53,
    val_main_v52, val_main_v51, val_main_v50, val_main_v49, val_main_v48, val_main_cst_9, pos_at]
  rw [hot_at, clsTerm, hot, mul_comm (pos _)]
  congr 1
  split_ifs
  · exact bce_one _
  · rw [sub_zero]; exact bce_zero _

/-- The number of positives, counted as a word. -/
theorem count_at : val_main_v4 (F := Ideal) T ix0 = ∑ b : Fin 16, ∑ n : Fin 25200, pos (T (ix2 b n)) := by
  refine (count_words (val_main_v1 (F := Ideal) T) natLt_1_32 reducesTo_S16x25200_S_d0_1 h_S_ ix0).trans ?_
  rw [sum_idx2]
  exact Finset.sum_congr rfl fun b _ => Finset.sum_congr rfl fun n _ => pos_at T (ix2 b n)

/-- The number of positives is a real number, and positive once there is one. -/
theorem count_pos (h : ∃ i, T i ≠ 0#32) :
    ∃ r : ℝ, 0 < r ∧ ∑ b : Fin 16, ∑ n : Fin 25200, pos (T (ix2 b n)) = (r : EReal) := by
  obtain ⟨i, hi⟩ := h
  have e (w : BitVec 32) : pos w = (((if w = 0#32 then 0 else 1 : ℕ) : ℝ) : EReal) := by unfold pos; split_ifs <;> simp
  refine ⟨(((∑ i : S16x25200.Idx, if T i = 0#32 then 0 else 1 : ℕ) : ℤ) : ℝ), ?_, ?_⟩
  · have : 0 < ∑ i : S16x25200.Idx, (if T i = 0#32 then 0 else 1 : ℕ) :=
      Finset.sum_pos' (fun _ _ => Nat.zero_le _) ⟨i, Finset.mem_univ _, by rw [if_neg hi]; exact Nat.one_pos⟩
    exact_mod_cast this
  · rw [cast_sum, sum_idx2]
    exact Finset.sum_congr rfl fun b _ => Finset.sum_congr rfl fun n _ => e _

/-- The objectness sums together. -/
theorem obj_sum (hn : ∀ i, T i ≠ 0#32 ∨ G i = 0#1) :
    (∑ b : Fin 16, ∑ n : Fin 25200, val_main_v16 (F := Ideal) O T (ix2 b n))
        + (∑ b : Fin 16, ∑ n : Fin 25200, val_main_v33 (F := Ideal) O T G (ix2 b n))
      = ∑ b : Fin 16, ∑ n : Fin 25200, objTerm (T (ix2 b n)) (O (ix2 b n)) := by
  rw [← Finset.sum_add_distrib]
  refine Finset.sum_congr rfl fun b _ => ?_
  rw [← Finset.sum_add_distrib]
  exact Finset.sum_congr rfl fun n _ => obj_at O T G b n (hn _)

/-- Four quotients by the same positive number are one quotient. -/
theorem quotients {r : ℝ} (h : 0 < r) (A B L K : EReal) :
    Ideal.div A r + Ideal.div B r + Ideal.div L r + Ideal.div K r = Ideal.div (K + (A + B) + L) r := by
  rw [← div_add h, ← div_add h, ← div_add h, add_comm, add_assoc K]

/-- The reference's result is the loss, when some prediction is positive and no background prediction is ignored. -/
theorem value (hp : ∃ i, T i ≠ 0#32) (hn : ∀ i, T i ≠ 0#32 ∨ G i = 0#1) :
    val_main_v63 (F := Ideal) P O C Q T G = fun _ => loss P O C Q T := by
  funext i
  obtain ⟨r, hr, er⟩ := count_pos T hp
  rw [show i = ix0 from funext fun a => a.elim0]
  pointwise [val_main_v63, val_main_v62, val_main_v61, val_main_v60, val_main_v45, val_main_v44, val_main_v43,
    val_main_v37, val_main_v36, val_main_v35, val_main_v34, val_main_v18, val_main_v17, val_main_cst_10, val_main_cst_5,
    val_main_cst_6, val_main_cst_7, val_main_cst_8, val_main_cst_2]
  simp only [cls_at, loc_at]
  rw [count_at, loss, er, word_half, quotients hr, obj_sum O T G hn]
  simp only [loc_spread]

end Cert.ReferenceIdeal.Loss

end
-- ==== Proof.Precondition.lean ====
/- What the precondition says: some prediction is positive, and no background prediction is ignored. -/
module

public import proofs.«01_k».proof.Pre_some_positive_none_ignored
public import proofs.«01_k».proof.Proof.Count

@[expose] public section

set_option maxRecDepth 16384

noncomputable section

namespace Cert.Pre_some_positive_none_ignored

open Idealize.ShloMosaic Cert.Loss

/-- The shape relations of the precondition's operations. -/
theorem shapes : Facts := ⟨by decide, by decide, by decide⟩

variable [Facts] (P Q : S16x25200x4.Idx → EReal) (O : S16x25200.Idx → EReal) (C : S16x25200x80.Idx → EReal)
  (T : S16x25200.Idx → BitVec 32) (G : S16x25200.Idx → BitVec 1)

/-- A comparison with 0 that is 1 tells a word from 0. -/
theorem ne_of_bit {w : BitVec 32} (h : IntOp.cmpi .ne w 0#32 = 1#1) : w ≠ 0#32 := by
  rintro rfl
  exact absurd h (by decide)

/-- The precondition read back. -/
theorem read (h : fn (F := Ideal) P O C Q T G = fun _ => 1#1) :
    (∃ i, T i ≠ 0#32) ∧ ∀ i, T i ≠ 0#32 ∨ G i = 0#1 := by
  obtain ⟨h1, h2⟩ := IntOp.andi_eq_one.1 (congrFun h ix0)
  refine ⟨?_, fun i => ?_⟩
  · obtain ⟨i, hi⟩ := some_of_or _ _ _ _ h1
    exact ⟨i, ne_of_bit hi⟩
  · have : Subsingleton S_.Idx := ⟨fun a b => funext fun x => x.elim0⟩
    have hi : IntOp.ori (IntOp.cmpi .ne (T i) 0#32) (~~~G i) = 1#1 := Host.reduce_andi_all _ _ _ _ _ h2 i
    rcases BitVec.eq_zero_or_eq_one (G i) with hg | hg
    · exact Or.inr hg
    · refine Or.inl (ne_of_bit ?_)
      rcases BitVec.eq_zero_or_eq_one (IntOp.cmpi .ne (T i) 0#32) with hc | hc
      · rw [hc, hg] at hi; exact absurd hi (by decide)
      · exact hc

end Cert.Pre_some_positive_none_ignored

end
-- ==== Proof.Equal.lean ====
/- The runs side by side: the kernel's and the reference's results are the same number. -/
module

public import proofs.«01_k».proof.Defs
public import proofs.«01_k».proof.Proof.Result
public import proofs.«01_k».proof.Proof.Reference
public import proofs.«01_k».proof.Proof.Precondition
public import proofs.«01_k».proof.Proof.Gen.ReferenceIdeal.Run

@[expose] public section

set_option maxRecDepth 16384

noncomputable section

namespace Cert.Proof

open Idealize.ShloMosaic Idealize.SL.Sem

/-- The reference runs, leaves its arguments alone, and ends with every counter at zero: it has none. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- On equal arguments, of which some prediction is positive and no background prediction is ignored, the kernel and the
    reference end with the same loss. -/
theorem equal [Cert.Pre_some_positive_none_ignored.Facts] :
    Cert.algebraic_KernelIdeal_ReferenceIdeal_pre_some_positive_none_ignored := fun m g m' g' hpre hagree => by
  refine ⟨fun c _ => KernelIdeal.Loss.loss (KernelIdeal.Loss.aP m c) (KernelIdeal.Loss.aO m c) (KernelIdeal.Loss.aC m c)
    (KernelIdeal.Loss.aQ m c) (KernelIdeal.Loss.aT m c), ?_, ?_⟩
  · exact (θ_run Cert.KernelIdeal.defs _ _).mono (fun r h c => ⟨h.1 c, h.2 c⟩)
      (θ_run_and (KernelIdeal.Loss.run m g) (Cert.KernelIdeal.Gen.unchanged (F := Ideal) m g))
  · refine (θ_run Cert.ReferenceIdeal.defs _ _).mono (fun r h c => ⟨(h c).1.trans ?_, (h c).2⟩)
      (Cert.ReferenceIdeal.Value.run (F := Ideal) m' g')
    obtain ⟨hp, hn⟩ := Cert.Pre_some_positive_none_ignored.read _ _ _ _ _ _ (hpre c)
    obtain ⟨h0, h1, h2, h3, h4, h5⟩ := hagree c
    rw [Cert.ReferenceIdeal.Read.val_main_v63_eq, h0, h1, h2, h3, h4, h5]
    exact Cert.ReferenceIdeal.Loss.value _ _ _ _ _ _ hp hn

end Cert.Proof

end
-- ==== Proof.lean ====
/- The proof of the certificate's claim: the frames of the kernel, the ideal kernel and the reference; the ideal kernel is
   the kernel's own text; and the ideal kernel and the reference end with the same loss. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equal

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Pre_some_positive_none_ignored.shapes,
  fun m g _ => Cert.Kernel.Gen.frame m g,
  fun m g _ => Cert.KernelIdeal.Gen.frame m g,
  fun m g _ => Cert.KernelIdeal.Gen.frame m g,
  reference_frame,
  fun m g _ => reference_frame m g trivial,
  trivial,
  by
    have := Cert.Pre_some_positive_none_ignored.shapes
    exact equal⟩

end Cert.Proof

end
